-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kept_apart [hPre_kept_apart : Cert.Pre_kept_apart.Facts] (m : (ℓ : Loc Cert.KernelIdeal.nD Cert.KernelIdeal.τ Cert.KernelIdeal.sig) → Buf (Elt Ideal) ℓ) : Prop :=
  ∀ c : Dev Cert.KernelIdeal.nD,
    (Cert.Pre_kept_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kept_apart [hPre_kept_apart : Cert.Pre_kept_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_kept_apart [hKernelIdeal : Cert.KernelIdeal.Facts] [hPre_kept_apart : Cert.Pre_kept_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_kept_apart [hReferenceIdeal : Cert.ReferenceIdeal.Facts] [hPre_kept_apart : Cert.Pre_kept_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_kept_apart [hKernelIdeal : Cert.KernelIdeal.Facts] [hReferenceIdeal : Cert.ReferenceIdeal.Facts] [hPre_kept_apart : Cert.Pre_kept_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_kept_apart : Cert.Pre_kept_apart.Facts),
    quiescent_Kernel (hKernel := hKernel)
    ∧ quiescent_KernelIdeal (hKernelIdeal := hKernelIdeal)
    ∧ quiescent_KernelIdeal_pre_kept_apart (hKernelIdeal := hKernelIdeal) (hPre_kept_apart := hPre_kept_apart)
    ∧ quiescent_ReferenceIdeal (hReferenceIdeal := hReferenceIdeal)
    ∧ quiescent_ReferenceIdeal_pre_kept_apart (hReferenceIdeal := hReferenceIdeal) (hPre_kept_apart := hPre_kept_apart)
    ∧ preserves_Kernel_KernelIdeal
    ∧ algebraic_KernelIdeal_ReferenceIdeal_pre_kept_apart (hKernelIdeal := hKernelIdeal) (hReferenceIdeal := hReferenceIdeal) (hPre_kept_apart := hPre_kept_apart)
-- ==== Pre_kept_apart.lean ====
abbrev S3x512x1536 : Shape := ⟨3, ![3, 512, 1536]⟩
abbrev S768x8960 : Shape := ⟨2, ![768, 8960]⟩
abbrev S48x8960 : Shape := ⟨2, ![48, 8960]⟩
abbrev S8960 : Shape := ⟨1, ![8960]⟩
abbrev S_ : Shape := ⟨0, ![]⟩
abbrev S8 : Shape := ⟨1, ![8]⟩
abbrev S8x1x1 : Shape := ⟨3, ![8, 1, 1]⟩
abbrev S1x48x8960 : Shape := ⟨3, ![1, 48, 8960]⟩
abbrev S8x48x8960 : Shape := ⟨3, ![8, 48, 8960]⟩

class Facts : Prop where
  bitsLt_bf16_f32 : FTy.bits .bf16 < FTy.bits .f32
  bcast_S_S3x512x1536 : S_.BroadcastsInDim S3x512x1536 (![] : Fin 0 → Fin S3x512x1536.rank)
  reducesTo_S3x512x1536_S_d0_1_2 : S3x512x1536.ReducesTo [0, 1, 2] S_
  h_S_ : 0 < S_.numel
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S48x8960_S1x48x8960_1_2 : S48x8960.BroadcastsInDim S1x48x8960 (![1, 2] : Fin 2 → Fin S1x48x8960.rank)
  bcast_S1x48x8960_S8x48x8960_0_1_2 : S1x48x8960.BroadcastsInDim S8x48x8960 (![0, 1, 2] : Fin 3 → Fin S8x48x8960.rank)
  bcast_S8x1x1_S8x48x8960_0_1_2 : S8x1x1.BroadcastsInDim S8x48x8960 (![0, 1, 2] : Fin 3 → Fin S8x48x8960.rank)
  bcast_S_S8x48x8960 : S_.BroadcastsInDim S8x48x8960 (![] : Fin 0 → Fin S8x48x8960.rank)
  reducesTo_S8x48x8960_S_d0_1_2 : S8x48x8960.ReducesTo [0, 1, 2] S_

variable [Facts]

def fn_part1 {F : FTy → Type} [FloatOps F] (main_v4 : IVec S_ 1) (main_v14 : IVec S8x48x8960 32) (main_v17 : IVec S8x48x8960 32) (main_v18 : IVec S8x48x8960 32) : IVec S_ 1 :=
  let main_v19 : IVec S8x48x8960 32 := Host.shrsi main_v17 main_v18
  let main_c_3 : IVec S_ 32 := constantI S_ 32 3#32
  let main_v20 : IVec S8x48x8960 32 := broadcastInDim S8x48x8960 ![] bcast_S_S8x48x8960 main_c_3
  let main_v21 : IVec S8x48x8960 32 := andi main_v19 main_v20
  let main_v22 : IVec S8x48x8960 1 := cmpi .ne main_v14 main_v21
  let main_c_4 : IVec S_ 1 := constantI S_ 1 1#1
  let main_v23 : IVec S_ 1 := (fun x v => Host.reduce IntOp.andi x v reducesTo_S8x48x8960_S_d0_1_2 h_S_) main_v22 main_c_4
  let main_v24 : IVec S_ 1 := andi main_v4 main_v23
  main_v24

def fn {F : FTy → Type} [FloatOps F] (main_arg0 : FVec F S3x512x1536 .bf16) (main_arg1 : IVec S768x8960 8) (main_arg2 : IVec S48x8960 32) (main_arg3 : FVec F S8960 .f32) : IVec S_ 1 :=
  let main_v0 : FVec F S3x512x1536 .f32 := (extf .f32 · bitsLt_bf16_f32) main_arg0
  let main_v1 : FVec F S3x512x1536 .f32 := Host.absf main_v0
  let main_cst : FVec F S_ .f32 := constant S_ .f32 0x7F7F0000#32
  let main_v2 : FVec F S3x512x1536 .f32 := broadcastInDim S3x512x1536 ![] bcast_S_S3x512x1536 main_cst
  let main_v3 : IVec S3x512x1536 1 := cmpf .ole main_v1 main_v2
  let main_c : IVec S_ 1 := constantI S_ 1 1#1
  let main_v4 : IVec S_ 1 := (fun x v => Host.reduce IntOp.andi x v reducesTo_S3x512x1536_S_d0_1_2 h_S_) main_v3 main_c
  let main_v5 : IVec S8 32 := iotaInDim S8 32 0
  let main_v6 : IVec S8x1x1 32 := broadcastInDim S8x1x1 ![0] bcast_S8_S8x1x1_0 main_v5
  let main_c_0 : IVec S_ 32 := constantI S_ 32 4#32
  let main_v7 : IVec S8x1x1 32 := broadcastInDim S8x1x1 ![] bcast_S_S8x1x1 main_c_0
  let main_v8 : IVec S8x1x1 32 := muli main_v7 main_v6
  let main_v9 : IVec S1x48x8960 32 := broadcastInDim S1x48x8960 ![1, 2] bcast_S48x8960_S1x48x8960_1_2 main_arg2
  let main_v10 : IVec S8x48x8960 32 := broadcastInDim S8x48x8960 ![0, 1, 2] bcast_S1x48x8960_S8x48x8960_0_1_2 main_v9
  let main_v11 : IVec S8x48x8960 32 := broadcastInDim S8x48x8960 ![0, 1, 2] bcast_S8x1x1_S8x48x8960_0_1_2 main_v8
  let main_v12 : IVec S8x48x8960 32 := Host.shrsi main_v10 main_v11
  let main_c_1 : IVec S_ 32 := constantI S_ 32 3#32
  let main_v13 : IVec S8x48x8960 32 := broadcastInDim S8x48x8960 ![] bcast_S_S8x48x8960 main_c_1
  let main_v14 : IVec S8x48x8960 32 := andi main_v12 main_v13
  let main_c_2 : IVec S_ 32 := constantI S_ 32 2#32
  let main_v15 : IVec S8x1x1 32 := broadcastInDim S8x1x1 ![] bcast_S_S8x1x1 main_c_2
  let main_v16 : IVec S8x1x1 32 := addi main_v8 main_v15
  let main_v17 : IVec S8x48x8960 32 := broadcastInDim S8x48x8960 ![0, 1, 2] bcast_S1x48x8960_S8x48x8960_0_1_2 main_v9
  let main_v18 : IVec S8x48x8960 32 := broadcastInDim S8x48x8960 ![0, 1, 2] bcast_S8x1x1_S8x48x8960_0_1_2 main_v16
  fn_part1 (F := F) main_v4 main_v14 main_v17 main_v18
-- ==== Kernel.lean ====
abbrev S3x512x1536 : Shape := ⟨3, ![3, 512, 1536]⟩
abbrev S768x8960 : Shape := ⟨2, ![768, 8960]⟩
abbrev S48x8960 : Shape := ⟨2, ![48, 8960]⟩
abbrev S8960 : Shape := ⟨1, ![8960]⟩
abbrev S1536x1536 : Shape := ⟨2, ![1536, 1536]⟩
abbrev S1x8960 : Shape := ⟨2, ![1, 8960]⟩
abbrev S1536x8960 : Shape := ⟨2, ![1536, 8960]⟩
abbrev S1536x1 : Shape := ⟨2, ![1536, 1]⟩
abbrev S768x128 : Shape := ⟨2, ![768, 128]⟩
abbrev S48x1280 : Shape := ⟨2, ![48, 1280]⟩
abbrev S1x1280 : Shape := ⟨2, ![1, 1280]⟩
abbrev S1536x1280 : Shape := ⟨2, ![1536, 1280]⟩
abbrev S1536x128 : Shape := ⟨2, ![1536, 128]⟩
abbrev S64x1536 : Shape := ⟨2, ![64, 1536]⟩
abbrev S64 : Shape := ⟨1, ![64]⟩
abbrev S64x1 : Shape := ⟨2, ![64, 1]⟩
abbrev S64x256 : Shape := ⟨2, ![64, 256]⟩
abbrev S64x128 : Shape := ⟨2, ![64, 128]⟩
abbrev S32x1536 : Shape := ⟨2, ![32, 1536]⟩
abbrev S32x128 : Shape := ⟨2, ![32, 128]⟩
abbrev S32x1408 : Shape := ⟨2, ![32, 1408]⟩
abbrev S32x128x1 : Shape := ⟨3, ![32, 128, 1]⟩
abbrev S32x1280 : Shape := ⟨2, ![32, 1280]⟩
abbrev S32x1152 : Shape := ⟨2, ![32, 1152]⟩
abbrev S32x1024 : Shape := ⟨2, ![32, 1024]⟩
abbrev S32x896 : Shape := ⟨2, ![32, 896]⟩
abbrev S32x768 : Shape := ⟨2, ![32, 768]⟩
abbrev S32x640 : Shape := ⟨2, ![32, 640]⟩
abbrev S32x512 : Shape := ⟨2, ![32, 512]⟩
abbrev S32x384 : Shape := ⟨2, ![32, 384]⟩
abbrev S32x256 : Shape := ⟨2, ![32, 256]⟩
abbrev S192x128 : Shape := ⟨2, ![192, 128]⟩
abbrev S8x128 : Shape := ⟨2, ![8, 128]⟩
abbrev S8x4x128 : Shape := ⟨3, ![8, 4, 128]⟩
abbrev S8x1x128 : Shape := ⟨3, ![8, 1, 128]⟩
abbrev S512x1536 : Shape := ⟨2, ![512, 1536]⟩
abbrev S1536x256 : Shape := ⟨2, ![1536, 256]⟩
abbrev S512x256 : Shape := ⟨2, ![512, 256]⟩
abbrev S512x128 : Shape := ⟨2, ![512, 128]⟩
abbrev S1x256 : Shape := ⟨2, ![1, 256]⟩

abbrev nBuf : Space → Nat
  | .hbm => 9
  | .vmem => 32
  | .smem => 0
  | _ => 0

abbrev bufTy : (tb : Table) → Fin (tcTables nBuf tb) → BufTy
  | .hbm, ⟨0, _⟩ => ⟨S3x512x1536, .bf16⟩
  | .hbm, ⟨1, _⟩ => ⟨S768x8960, .i8⟩
  | .hbm, ⟨2, _⟩ => ⟨S48x8960, .i32⟩
  | .hbm, ⟨3, _⟩ => ⟨S8960, .f32⟩
  | .hbm, ⟨4, _⟩ => ⟨S1536x1536, .bf16⟩
  | .hbm, ⟨5, _⟩ => ⟨S1x8960, .f32⟩
  | .hbm, ⟨6, _⟩ => ⟨S1536x8960, .bf16⟩
  | .hbm, ⟨7, _⟩ => ⟨S1536x1536, .fp8e4m3⟩
  | .hbm, ⟨8, _⟩ => ⟨S1536x1, .f32⟩
  | .local _ .vmem, ⟨0, _⟩ => ⟨S1536x1536, .bf16⟩
  | .local _ .vmem, ⟨1, _⟩ => ⟨S768x128, .i8⟩
  | .local _ .vmem, ⟨2, _⟩ => ⟨S768x128, .i8⟩
  | .local _ .vmem, ⟨3, _⟩ => ⟨S768x128, .i8⟩
  | .local _ .vmem, ⟨4, _⟩ => ⟨S768x128, .i8⟩
  | .local _ .vmem, ⟨5, _⟩ => ⟨S768x128, .i8⟩
  | .local _ .vmem, ⟨6, _⟩ => ⟨S768x128, .i8⟩
  | .local _ .vmem, ⟨7, _⟩ => ⟨S768x128, .i8⟩
  | .local _ .vmem, ⟨8, _⟩ => ⟨S768x128, .i8⟩
  | .local _ .vmem, ⟨9, _⟩ => ⟨S768x128, .i8⟩
  | .local _ .vmem, ⟨10, _⟩ => ⟨S768x128, .i8⟩
  | .local _ .vmem, ⟨11, _⟩ => ⟨S768x128, .i8⟩
  | .local _ .vmem, ⟨12, _⟩ => ⟨S768x128, .i8⟩
  | .local _ .vmem, ⟨13, _⟩ => ⟨S768x128, .i8⟩
  | .local _ .vmem, ⟨14, _⟩ => ⟨S768x128, .i8⟩
  | .local _ .vmem, ⟨15, _⟩ => ⟨S768x128, .i8⟩
  | .local _ .vmem, ⟨16, _⟩ => ⟨S768x128, .i8⟩
  | .local _ .vmem, ⟨17, _⟩ => ⟨S768x128, .i8⟩
  | .local _ .vmem, ⟨18, _⟩ => ⟨S768x128, .i8⟩
  | .local _ .vmem, ⟨19, _⟩ => ⟨S768x128, .i8⟩
  | .local _ .vmem, ⟨20, _⟩ => ⟨S768x128, .i8⟩
  | .local _ .vmem, ⟨21, _⟩ => ⟨S48x1280, .i32⟩
  | .local _ .vmem, ⟨22, _⟩ => ⟨S48x1280, .i32⟩
  | .local _ .vmem, ⟨23, _⟩ => ⟨S1x1280, .f32⟩
  | .local _ .vmem, ⟨24, _⟩ => ⟨S1x1280, .f32⟩
  | .local _ .vmem, ⟨25, _⟩ => ⟨S1536x1280, .bf16⟩
  | .local _ .vmem, ⟨26, _⟩ => ⟨S1536x1280, .bf16⟩
  | .local _ .vmem, ⟨27, _⟩ => ⟨S1536x1536, .fp8e4m3⟩
  | .local _ .vmem, ⟨28, _⟩ => ⟨S1536x1, .f32⟩
  | .local _ .vmem, ⟨29, _⟩ => ⟨S1536x1536, .fp8e4m3⟩
  | .local _ .vmem, ⟨30, _⟩ => ⟨S1536x128, .f32⟩
  | .local _ .vmem, ⟨31, _⟩ => ⟨S1536x1280, .fp8e4m3⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5996 : BitVec 32 := 0#32
  let c24_i32_5997 : BitVec 32 := 24#32
  let v14183 : BitVec 32 := Scalar.addi c0_i32_5996 c24_i32_5997
  let c1_i32 : BitVec 32 := 1#32
  ⟨c0_i32_5996, v14183, c1_i32⟩
def k0_off1 (k0_t1 : Fin k0_t1_loop.trips) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14187 : Index := Scalar.indexCast v14186
  let c0_6001 : Index := 0#32
  ![v14187.toNat, 0]
def k0_off2 (k0_t1 : Fin k0_t1_loop.trips) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14238 : Index := Scalar.indexCast v14186
  let c0_6017 : Index := 0#32
  ![v14238.toNat, 0]
def k0_off3 (k0_t1 : Fin k0_t1_loop.trips) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14242 : Index := Scalar.indexCast v14186
  let c0_6018 : Index := 0#32
  ![v14242.toNat, 0]
def k0_off4 (k0_t1 : Fin k0_t1_loop.trips) (c0_i32_6028 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14291 : BitVec 32 := Scalar.addi v14186 c0_i32_6028
  let v14292 : Index := Scalar.indexCast v14291
  let c0_6029 : Index := 0#32
  ![v14292.toNat, 0]
def k0_off5 (k0_t1 : Fin k0_t1_loop.trips) (c0_i32_6043 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14335 : BitVec 32 := Scalar.addi v14186 c0_i32_6043
  let v14336 : Index := Scalar.indexCast v14335
  let c128_6044 : Index := 128#32
  ![v14336.toNat, 128]
def k0_off6 (k0_t1 : Fin k0_t1_loop.trips) (c0_i32_6058 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14385 : BitVec 32 := Scalar.addi v14186 c0_i32_6058
  let v14386 : Index := Scalar.indexCast v14385
  let c256_6059 : Index := 256#32
  ![v14386.toNat, 256]
def k0_off7 (k0_t1 : Fin k0_t1_loop.trips) (c0_i32_6073 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14429 : BitVec 32 := Scalar.addi v14186 c0_i32_6073
  let v14430 : Index := Scalar.indexCast v14429
  let c384_6074 : Index := 384#32
  ![v14430.toNat, 384]
def k0_off8 (k0_t1 : Fin k0_t1_loop.trips) (c0_i32_6088 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14479 : BitVec 32 := Scalar.addi v14186 c0_i32_6088
  let v14480 : Index := Scalar.indexCast v14479
  let c512_6089 : Index := 512#32
  ![v14480.toNat, 512]
def k0_off9 (k0_t1 : Fin k0_t1_loop.trips) (c0_i32_6103 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14523 : BitVec 32 := Scalar.addi v14186 c0_i32_6103
  let v14524 : Index := Scalar.indexCast v14523
  let c640_6104 : Index := 640#32
  ![v14524.toNat, 640]
def k0_off10 (k0_t1 : Fin k0_t1_loop.trips) (c0_i32_6118 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14573 : BitVec 32 := Scalar.addi v14186 c0_i32_6118
  let v14574 : Index := Scalar.indexCast v14573
  let c768_6119 : Index := 768#32
  ![v14574.toNat, 768]
def k0_off11 (k0_t1 : Fin k0_t1_loop.trips) (c0_i32_6133 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14617 : BitVec 32 := Scalar.addi v14186 c0_i32_6133
  let v14618 : Index := Scalar.indexCast v14617
  let c896_6134 : Index := 896#32
  ![v14618.toNat, 896]
def k0_off12 (k0_t1 : Fin k0_t1_loop.trips) (c0_i32_6148 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14667 : BitVec 32 := Scalar.addi v14186 c0_i32_6148
  let v14668 : Index := Scalar.indexCast v14667
  let c1024_6149 : Index := 1024#32
  ![v14668.toNat, 1024]
def k0_off13 (k0_t1 : Fin k0_t1_loop.trips) (c0_i32_6163 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14711 : BitVec 32 := Scalar.addi v14186 c0_i32_6163
  let v14712 : Index := Scalar.indexCast v14711
  let c1152_6164 : Index := 1152#32
  ![v14712.toNat, 1152]
def k0_off14 (k0_t1 : Fin k0_t1_loop.trips) (c0_i32_6178 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14760 : BitVec 32 := Scalar.addi v14186 c0_i32_6178
  let v14761 : Index := Scalar.indexCast v14760
  let c1280_6179 : Index := 1280#32
  ![v14761.toNat, 1280]
def k0_off15 (k0_t1 : Fin k0_t1_loop.trips) (c0_i32_6193 : BitVec 32) : Fin 2 → Nat :=
  let c0_i32_6000 : BitVec 32 := 0#32
  let c0_i32_5996 : BitVec 32 := 0#32
  let c1_i32 : BitVec 32 := 1#32
  let arg20 : BitVec 32 := Scf.iv c0_i32_5996 c1_i32 k0_t1
  let c1_i32_5999 : BitVec 32 := 1#32
  let v14184 : BitVec 32 := Scalar.muli arg20 c1_i32_5999
  let v14185 : BitVec 32 := Scalar.addi c0_i32_6000 v14184
  let c64_i32 : BitVec 32 := 64#32
  let v14186 : BitVec 32 := Scalar.muli v14185 c64_i32
  let v14804 : BitVec 32 := Scalar.addi v14186 c0_i32_6193
  let v14805 : Index := Scalar.indexCast v14804
  let c1408_6194 : Index := 1408#32
  ![v14805.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c10_i32 : BitVec 32 := 10#32
  let v0 : BitVec 32 := Scalar.muli arg0 c10_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c10_i32 : BitVec 32 := 10#32
  let v0 : BitVec 32 := Scalar.muli arg0 c10_i32
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c10_i32 : BitVec 32 := 10#32
  let v0 : BitVec 32 := Scalar.muli arg0 c10_i32
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c10_i32 : BitVec 32 := 10#32
  let v0 : BitVec 32 := Scalar.muli arg0 c10_i32
  let c3_i32 : BitVec 32 := 3#32
  let v1 : BitVec 32 := Scalar.addi v0 c3_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c10_i32 : BitVec 32 := 10#32
  let v0 : BitVec 32 := Scalar.muli arg0 c10_i32
  let c4_i32 : BitVec 32 := 4#32
  let v1 : BitVec 32 := Scalar.addi v0 c4_i32
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let c10_i32 : BitVec 32 := 10#32
  let v0 : BitVec 32 := Scalar.muli arg0 c10_i32
  let c5_i32 : BitVec 32 := 5#32
  let v1 : BitVec 32 := Scalar.addi v0 c5_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c10_i32 : BitVec 32 := 10#32
  let v0 : BitVec 32 := Scalar.muli arg0 c10_i32
  let c6_i32 : BitVec 32 := 6#32
  let v1 : BitVec 32 := Scalar.addi v0 c6_i32
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let c10_i32 : BitVec 32 := 10#32
  let v0 : BitVec 32 := Scalar.muli arg0 c10_i32
  let c7_i32 : BitVec 32 := 7#32
  let v1 : BitVec 32 := Scalar.addi v0 c7_i32
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let c10_i32 : BitVec 32 := 10#32
  let v0 : BitVec 32 := Scalar.muli arg0 c10_i32
  let c8_i32 : BitVec 32 := 8#32
  let v1 : BitVec 32 := Scalar.addi v0 c8_i32
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let c10_i32 : BitVec 32 := 10#32
  let v0 : BitVec 32 := Scalar.muli arg0 c10_i32
  let c9_i32 : BitVec 32 := 9#32
  let v1 : BitVec 32 := Scalar.addi v0 c9_i32
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x1280 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1536x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1536x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S3x512x1536 : Shape := ⟨3, ![3, 512, 1536]⟩
abbrev S768x8960 : Shape := ⟨2, ![768, 8960]⟩
abbrev S48x8960 : Shape := ⟨2, ![48, 8960]⟩
abbrev S8960 : Shape := ⟨1, ![8960]⟩
abbrev S1536x1536 : Shape := ⟨2, ![1536, 1536]⟩
abbrev S1x8960 : Shape := ⟨2, ![1, 8960]⟩
abbrev S1536x8960 : Shape := ⟨2, ![1536, 8960]⟩
abbrev S1536x1 : Shape := ⟨2, ![1536, 1]⟩
abbrev S1536 : Shape := ⟨1, ![1536]⟩
abbrev S1536x254 : Shape := ⟨2, ![1536, 254]⟩
abbrev S48x1x8960 : Shape := ⟨3, ![48, 1, 8960]⟩
abbrev S48x8x8960 : Shape := ⟨3, ![48, 8, 8960]⟩
abbrev S384x1x8960 : Shape := ⟨3, ![384, 1, 8960]⟩
abbrev S384x2x8960 : Shape := ⟨3, ![384, 2, 8960]⟩
abbrev S384x4x8960 : Shape := ⟨3, ![384, 4, 8960]⟩

abbrev nBuf : Space → Nat
  | .hbm => 9
  | .vmem => 7
  | .smem => 0
  | _ => 0

abbrev bufTy : (tb : Table) → Fin (tcTables nBuf tb) → BufTy
  | .hbm, ⟨0, _⟩ => ⟨S3x512x1536, .bf16⟩
  | .hbm, ⟨1, _⟩ => ⟨S768x8960, .i8⟩
  | .hbm, ⟨2, _⟩ => ⟨S48x8960, .i32⟩
  | .hbm, ⟨3, _⟩ => ⟨S8960, .f32⟩
  | .hbm, ⟨4, _⟩ => ⟨S1536x1536, .bf16⟩
  | .hbm, ⟨5, _⟩ => ⟨S1x8960, .f32⟩
  | .hbm, ⟨6, _⟩ => ⟨S1536x8960, .bf16⟩
  | .hbm, ⟨7, _⟩ => ⟨S1536x1536, .fp8e4m3⟩
  | .hbm, ⟨8, _⟩ => ⟨S1536x1, .f32⟩
  | .local _ .vmem, ⟨0, _⟩ => ⟨S1536x1536, .bf16⟩
  | .local _ .vmem, ⟨1, _⟩ => ⟨S768x8960, .i8⟩
  | .local _ .vmem, ⟨2, _⟩ => ⟨S48x8960, .i32⟩
  | .local _ .vmem, ⟨3, _⟩ => ⟨S1x8960, .f32⟩
  | .local _ .vmem, ⟨4, _⟩ => ⟨S1536x8960, .bf16⟩
  | .local _ .vmem, ⟨5, _⟩ => ⟨S1536x1536, .fp8e4m3⟩
  | .local _ .vmem, ⟨6, _⟩ => ⟨S1536x1, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8960 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x8960 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.PRuns.lean ====
/-
  What the two runs of the kernel's body share: the arrays when the region is entered, the blocks, the branch conditions over the points, the staging and scratch buffers.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 10 rfl).trans ((hA c 10).trans (V_main_arg1 m c)),
      (Pipeline.RDat.FramePost.arr_in h c 11 rfl).trans ((hA c 11).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S48x1280 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1280 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x1280 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1536x1 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S1536x1536 .fp8e4m3 := Memref.whole cc0_scratch0
abbrev scM0_1 : Memref sig .tc .vmem S1536x128 .f32 := Memref.whole cc0_scratch1
abbrev scM0_2 : Memref sig .tc .vmem S1536x1280 .fp8e4m3 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.PRunA.lean ====
/-
  The body's run at the first grid point.
-/
module

public import proofs.«01_k».proof.Proof.PRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9288000 in
/-- The body's triple IN CASE A (`scf.if` 0 taken: points 0): on whole staging memrefs — the inputs' at their contents,
    the FORGOTTEN outputs' (13, 14, 15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i)
    (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_sparse24_fp8_linear_eq_skeleton]; unfold cc0_sparse24_fp8_linear_skel
    simp only [k0_part373_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part374_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part375_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part376_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part377_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part378_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.PRunB.lean ====
/-
  The body's run at the later grid points.
-/
module

public import proofs.«01_k».proof.Proof.PRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9236000 in
/-- The body's triple IN CASE B (`scf.if` 0 not taken: points 1, 2, 3, 4, 5, 6): on whole staging memrefs — the inputs' at their contents,
    the FORGOTTEN outputs' (13, 14, 15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : ¬cond0_0 i)
    (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_sparse24_fp8_linear_eq_skeleton]; unfold cc0_sparse24_fp8_linear_skel
    simp only [k0_part373_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part374_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part375_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part376_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part377_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part378_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.PFrame.lean ====
/-
  The kernel as printed at words runs, and leaves its arguments and its counters as they were; its outputs' contents are not named here.
-/
module

public import proofs.«01_k».proof.Proof.PRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (13, 14, 15): nothing reads what the kernel leaves in them, so nothing
    of it is named (Lib/Pipeline/Dat.lean `Dat.toRForget`). -/
def forgets0 : Fin 16 → Bool := fun w => w.val == 13 || w.val == 14 || w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 7 := lt_of_lt_of_eq t.isLt (show cfg0.N = 7 from N_0)
  by_cases h0 : t.val % 7 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 13, 14, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KTile.lean ====
/-
  One 32 × 128 tile of the dense weight: the bytes the kernel's bit arithmetic leaves, read one at a time.
-/
module

public import Idealize.ShloMosaic.Lib.BitcastFour
public import Idealize.ShloMosaic.Lib.BitcastPair
public import Idealize.ShloMosaic.Lib.Pipeline.Value
public import Idealize.ShloMosaic.Lib.ValueIdx
public import Idealize.ShloMosaic.PureOps.Ideal

@[expose] public section

namespace Cert.Sparse

open Idealize.ShloMosaic ValueIdx

variable {F : FTy → Type} [FloatOps F]

/-- The word that holds four dense rows of one column: two stored bytes of `v` (at bits `e` and `f`), each shifted to the byte
    the position read at bits `a` and `b` of `iw` names, joined. -/
def codeWord (v iw a b e f : BitVec 32) : BitVec 32 :=
  IntOp.ori
    (IntOp.shli .vector (IntOp.andi (IntOp.shrui .vector v e) 255#32) (IntOp.muli (IntOp.andi (IntOp.shrui .vector iw a) 3#32) 8#32))
    (IntOp.shli .vector (IntOp.andi (IntOp.shrui .vector v f) 255#32) (IntOp.muli (IntOp.andi (IntOp.shrui .vector iw b) 3#32) 8#32))

/-- The two-bit field of a word at bit `k`. -/
def pos (iw : BitVec 32) (k : ℕ) : BitVec 32 := (iw >>> k) &&& 3#32

theorem pos_cases (iw : BitVec 32) (k : ℕ) : ∃ n : Fin 4, pos iw k = BitVec.ofNat 32 n.val := by
  have h : (pos iw k).toNat ≤ 3 := by
    simp only [pos, BitVec.toNat_and]
    exact Nat.and_le_right
  exact ⟨⟨(pos iw k).toNat, by omega⟩, by simp⟩

/-- A byte shifted to byte `n` of a word, read in byte `p`. -/
theorem byte_shift (b : BitVec 8) (n p q : ℕ) (hn : n < 4) (hp : p < 4) (hq : q < 8) :
    ((b.setWidth 32) <<< (8 * n)).getLsbD (8 * p + q) = if n = p then b.getLsbD q else false := by
  have past (i : Nat) (h : 8 ≤ i) : b.getLsbD i = false := BitVec.getLsbD_of_ge b i h
  simp only [BitVec.getLsbD_shiftLeft, BitVec.getLsbD_setWidth]
  by_cases h : n = p
  · subst h
    simp [show 8 * n + q < 32 by omega, show q < 32 by omega]
  · rcases Nat.lt_or_gt_of_ne h with h1 | h1
    · simp [h, past (8 * p + q - 8 * n) (by omega)]
    · simp [h, show 8 * p + q < 8 * n by omega]

theorem shrui_ofNat (v : BitVec 32) (k : ℕ) (hk : k < 32) : IntOp.shrui .vector v (BitVec.ofNat 32 k) = v >>> k := by
  have e : (BitVec.ofNat 32 k).toNat = k := by simp; omega
  unfold IntOp.shrui
  rw [if_pos (by omega)]
  show v >>> (BitVec.ofNat 32 k).toNat = _
  rw [e]

theorem shli_ofNat (v : BitVec 32) (k : ℕ) (hk : k < 32) : IntOp.shli .vector v (BitVec.ofNat 32 k) = v <<< k := by
  have e : (BitVec.ofNat 32 k).toNat = k := by simp; omega
  unfold IntOp.shli
  rw [if_pos (by omega)]
  show v <<< (BitVec.ofNat 32 k).toNat = _
  rw [e]

/-- One shifted byte of `codeWord`, read at a bit. -/
theorem half_getLsbD (v iw : BitVec 32) (k e p q : ℕ) (b : BitVec 8) (hk : k < 32) (he : e < 25)
    (hb : ∀ q, q < 8 → v.getLsbD (e + q) = b.getLsbD q) (hp : p < 4) (hq : q < 8) :
    (IntOp.shli .vector (IntOp.andi (IntOp.shrui .vector v (BitVec.ofNat 32 e)) 255#32)
        (IntOp.muli (IntOp.andi (IntOp.shrui .vector iw (BitVec.ofNat 32 k)) 3#32) 8#32)).getLsbD (8 * p + q)
      = if pos iw k = BitVec.ofNat 32 p then b.getLsbD q else false := by
  rw [shrui_ofNat _ _ (by omega), shrui_ofNat _ _ hk]
  have hB : IntOp.andi (v >>> e) 255#32 = b.setWidth 32 := by
    apply BitVec.eq_of_getLsbD_eq
    intro i hi
    have h255 : (255#32 : BitVec 32).getLsbD i = decide (i < 8) := by
      have : i < 32 := hi
      interval_cases i <;> rfl
    simp only [IntOp.andi, BitVec.getLsbD_and, h255, BitVec.getLsbD_ushiftRight, BitVec.getLsbD_setWidth]
    by_cases h : i < 8
    · simp [h, hb i h, show i < 32 from hi]
    · simp [h, BitVec.getLsbD_of_ge b i (by omega)]
  rw [hB]
  obtain ⟨n, hn⟩ := pos_cases iw k
  have hP : IntOp.andi (iw >>> k) 3#32 = BitVec.ofNat 32 n.val := hn
  rw [hP, hn]
  have hM : IntOp.muli (BitVec.ofNat 32 n.val) 8#32 = BitVec.ofNat 32 (8 * n.val) := by
    unfold IntOp.muli
    rw [show (8#32 : BitVec 32) = BitVec.ofNat 32 8 from rfl, ← BitVec.ofNat_mul, Nat.mul_comm]
  rw [hM, shli_ofNat _ _ (by omega), byte_shift b n.val p q n.isLt hp hq]
  have hiff : (BitVec.ofNat 32 n.val = BitVec.ofNat 32 p) ↔ n.val = p := by
    constructor
    · intro h
      have := congrArg BitVec.toNat h
      simp at this
      omega
    · rintro rfl; rfl
  by_cases h : n.val = p
  · rw [if_pos h, if_pos (hiff.2 h)]
  · rw [if_neg h, if_neg (fun hh => h (hiff.1 hh))]

/-- The byte of `codeWord` at place `p`: the first stored byte where its position is `p`, the second where its position is, and
    zero at the two places left over — when the two positions differ. -/
theorem codeWord_byte (v iw : BitVec 32) (k0 k1 e f p q : ℕ) (b0 b1 : BitVec 8) (hk0 : k0 < 32) (hk1 : k1 < 32) (he : e < 25)
    (hf : f < 25) (hb0 : ∀ q, q < 8 → v.getLsbD (e + q) = b0.getLsbD q) (hb1 : ∀ q, q < 8 → v.getLsbD (f + q) = b1.getLsbD q)
    (hp : p < 4) (hq : q < 8) (hne : pos iw k0 ≠ pos iw k1) :
    (codeWord v iw (BitVec.ofNat 32 k0) (BitVec.ofNat 32 k1) (BitVec.ofNat 32 e) (BitVec.ofNat 32 f)).getLsbD (8 * p + q)
      = (if pos iw k0 = BitVec.ofNat 32 p then b0 else if pos iw k1 = BitVec.ofNat 32 p then b1 else 0#8).getLsbD q := by
  unfold codeWord
  show (_ ||| _ : BitVec 32).getLsbD _ = _
  rw [BitVec.getLsbD_or, half_getLsbD v iw k0 e p q b0 hk0 he hb0 hp hq, half_getLsbD v iw k1 f p q b1 hk1 hf hb1 hp hq]
  by_cases h0 : pos iw k0 = BitVec.ofNat 32 p
  · have h1 : ¬ pos iw k1 = BitVec.ofNat 32 p := fun h => hne (h0.trans h.symm)
    rw [if_pos h0, if_neg h1, if_pos h0, Bool.or_false]
  · rw [if_neg h0, if_neg h0, Bool.false_or]
    by_cases h1 : pos iw k1 = BitVec.ofNat 32 p
    · rw [if_pos h1, if_pos h1]
    · rw [if_neg h1, if_neg h1]; simp

/-- The 32-bit words of a block of bytes read back as bytes: byte `r % 4` of the word at row `r / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (a : Fin R) (l : Fin n) (q : Nat) (hq : q < 8) (s : Fin r) (p : ℕ)
    (hp : p < 4) (hs : a.val = 4 * s.val + p) :
    (bitcast ⟨2, ![R, n]⟩ 8 x h (ix2 a l)).getLsbD q = (x (ix2 s l)).getLsbD (8 * p + q) := by
  rw [bitcast_getLsbD x h _ q hq (by decide)]
  have hr : (⟨2, ![R, n]⟩ : Shape).row (ix2 a l) = a.val := rfl
  have e1 : ((⟨2, ![R, n]⟩ : Shape).row (ix2 a l) * 8 + q) / 32 = s.val := by rw [hr]; omega
  have e2 : ((⟨2, ![R, n]⟩ : Shape).row (ix2 a l) * 8 + q) % 32 = 8 * p + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A 32 × 128 tile of the dense weight as the kernel computes it: the words of the stored bytes `v` (768 rows of 128 lanes),
    eight of them at rows `off`, in fours, the one numbered by `st` of each four, against the eight index words `iw`. -/
def tile (v : (⟨2, ![768, 128]⟩ : Shape).Idx → BitVec 8) (iw : (⟨2, ![8, 128]⟩ : Shape).Idx → BitVec 32)
    (off : Fin 2 → ℕ) (st : Fin 3 → ℕ) (a b e f : BitVec 32)
    (h1 : (⟨2, ![768, 128]⟩ : Shape).Bitcasts 8 ⟨2, ![192, 128]⟩ 32)
    (h2 : (⟨2, ![192, 128]⟩ : Shape).Slices off ⟨2, ![32, 128]⟩)
    (h3 : (⟨2, ![32, 128]⟩ : Shape).ShapeCasts ⟨3, ![8, 4, 128]⟩)
    (h4 : (⟨3, ![8, 4, 128]⟩ : Shape).Slices st ⟨3, ![8, 1, 128]⟩)
    (h5 : (⟨3, ![8, 1, 128]⟩ : Shape).ShapeCasts ⟨2, ![8, 128]⟩)
    (h6 : (⟨2, ![8, 128]⟩ : Shape).Bitcasts 32 ⟨2, ![32, 128]⟩ 8)
    (h7 : (⟨2, ![32, 128]⟩ : Shape).ShapeCasts ⟨2, ![32, 128]⟩) : FVec F ⟨2, ![32, 128]⟩ .fp8e4m3 :=
  shapeCast ⟨2, ![32, 128]⟩ (bitcastToFloat .fp8e4m3 (bitcast ⟨2, ![32, 128]⟩ 8
    (fun j => codeWord
      (shapeCast ⟨2, ![8, 128]⟩ (extractStridedSlice ⟨3, ![8, 1, 128]⟩ st (shapeCast ⟨3, ![8, 4, 128]⟩
        (extractStridedSlice ⟨2, ![32, 128]⟩ off (bitcast ⟨2, ![192, 128]⟩ 32 v h1) h2) h3) h4) h5 j)
      (iw j) a b e f) h6)) h7

/-- The entry of a tile at row `4 s + p`: the stored byte the two positions put there, decoded. -/
theorem tile_apply (v : (⟨2, ![768, 128]⟩ : Shape).Idx → BitVec 8) (iw : (⟨2, ![8, 128]⟩ : Shape).Idx → BitVec 32)
    (kb i d h : ℕ) (a b e f : BitVec 32) (off : Fin 2 → ℕ) (st : Fin 3 → ℕ)
    (h1 h2 h3 h4 h5 h6 h7) (hkb : kb < 6) (hi : i < 4) (hh : h < 2) (hd : d = 2 * i + h)
    (hoff : off = ![32 * kb, 0]) (hst : st = ![0, i, 0])
    (ha : a = BitVec.ofNat 32 (4 * d)) (hb : b = BitVec.ofNat 32 (4 * d + 2))
    (he : e = BitVec.ofNat 32 (16 * h)) (hf : f = BitVec.ofNat 32 (16 * h + 8))
    (r : Fin 32) (l : Fin 128) (s : Fin 8) (p : ℕ) (hp : p < 4) (hr : r.val = 4 * s.val + p) (g0 g1 : Fin 768)
    (hg0 : g0.val = 2 * (64 * kb + 8 * s.val + d)) (hg1 : g1.val = 2 * (64 * kb + 8 * s.val + d) + 1)
    (hne : pos (iw (ix2 s l)) (4 * d) ≠ pos (iw (ix2 s l)) (4 * d + 2)) :
    tile (F := F) v iw off st a b e f h1 h2 h3 h4 h5 h6 h7 (ix2 r l)
      = FloatOps.ofBits .fp8e4m3 (if pos (iw (ix2 s l)) (4 * d) = BitVec.ofNat 32 p then v (ix2 g0 l)
          else if pos (iw (ix2 s l)) (4 * d + 2) = BitVec.ofNat 32 p then v (ix2 g1 l) else 0#8) := by
  subst hoff hst ha hb he hf
  unfold tile
  rw [shapeCast_self]
  show FloatOps.ofBits .fp8e4m3 _ = _
  congr 1
  apply BitVec.eq_of_getLsbD_eq
  intro q hq
  rw [bitcast_32_8_getLsbD_ix2 _ h6 r l q hq s p hp hr]
  have hw : shapeCast ⟨2, ![8, 128]⟩ (extractStridedSlice ⟨3, ![8, 1, 128]⟩ ![0, i, 0] (shapeCast ⟨3, ![8, 4, 128]⟩
        (extractStridedSlice ⟨2, ![32, 128]⟩ ![32 * kb, 0] (bitcast ⟨2, ![192, 128]⟩ 32 v h1) h2) h3) h4) h5 (ix2 s l)
      = bitcast ⟨2, ![192, 128]⟩ 32 v h1 (ix2 (⟨32 * kb + 4 * s.val + i, by omega⟩ : Fin 192) l) := by
    rw [shapeCast_apply _ h5 (ix2 s l) (ix3 s (0 : Fin 1) l) (by
      rw [Shape.rowMajor_val_three, Shape.rowMajor_val_two]; simp [ix2, ix3])]
    unfold extractStridedSlice
    rw [shapeCast_apply _ h3 _ (ix2 (⟨4 * s.val + i, by omega⟩ : Fin 32) l) (by
      rw [Shape.rowMajor_val_three, Shape.rowMajor_val_two]; simp [ix2, ix3]; ring)]
    congr 1
    funext c
    match c with
    | ⟨0, _⟩ => exact Fin.ext (by simp [ix2]; ring)
    | ⟨1, _⟩ => exact Fin.ext (by simp [ix2])
  rw [hw]
  refine codeWord_byte _ _ (4 * d) (4 * d + 2) (16 * h) (16 * h + 8) p q _ _ (by omega) (by omega) (by omega) (by omega) ?_ ?_ hp hq hne
  · intro q hq
    rw [bitcast_8_32_getLsbD_ix2 v h1 _ l (16 * h + q) (by omega) g0 (by simp only [hg0]; omega)]
    congr 1; omega
  · intro q hq
    rw [bitcast_8_32_getLsbD_ix2 v h1 _ l (16 * h + 8 + q) (by omega) g1 (by simp only [hg1]; omega)]
    congr 1; omega

end Cert.Sparse
-- ==== Proof.KRuns.lean ====
/- What the body runs of the low-precision kernel share: the branch condition in closed form, the
   staging memrefs at a point and the scratch operands. -/
module

public import proofs.«01_k».proof.Proof.Gen.KernelIdeal.Frame
public import proofs.«01_k».proof.Proof.Gen.KernelIdeal.Loops

public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S48x1280 .i32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1280 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x1280 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1536x1 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S1536x1536 .fp8e4m3 := Memref.whole cc0_scratch0
abbrev scM0_1 : Memref sig .tc .vmem S1536x128 .f32 := Memref.whole cc0_scratch1
abbrev scM0_2 : Memref sig .tc .vmem S1536x1280 .fp8e4m3 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KBody.lean ====
/- The pieces one point of the grid writes, named by their positions: the 480 tiles of the dense weight and the 15 tiles of the product. -/
module

public import proofs.«01_k».proof.Proof.KTile
public import proofs.«01_k».proof.Proof.KRuns
public import Idealize.ShloMosaic.Lib.Pipeline.FrameBody
public import Idealize.ShloMosaic.Lib.Pipeline.Value

@[expose] public section

set_option maxRecDepth 16384

noncomputable section

namespace Cert.KernelIdeal.Gen

open Idealize.ShloMosaic Idealize.ShloMosaic.TcCoe
open Cert.Sparse

variable {F : FTy → Type} [FloatOps F]

theorem tileOff_slices (kb : Fin 6) : (⟨2, ![192, 128]⟩ : Shape).Slices ![32 * kb.val, 0] ⟨2, ![32, 128]⟩ := by
  revert kb; decide

theorem tileStart_slices (d : Fin 8) : (⟨3, ![8, 4, 128]⟩ : Shape).Slices ![0, d.val / 2, 0] ⟨3, ![8, 1, 128]⟩ := by
  revert d; decide

theorem idxRect_inb (c : Fin 10) (kb : Fin 6) : ∀ a : Fin S48x1280.rank, (![8 * kb.val, 128 * c.val] : Fin 2 → ℕ) a + S8x128.size a ≤ S48x1280.size a := by
  revert c kb; decide

theorem wdRect_inb (c : Fin 10) (kb : Fin 6) (d : Fin 8) :
    ∀ a : Fin S1536x1280.rank, (![256 * kb.val + 32 * d.val, 128 * c.val] : Fin 2 → ℕ) a + S32x128.size a ≤ S1536x1280.size a := by
  revert c kb d; decide

/-- The tile of the dense weight at lane block `c`, index rows `8 kb …`, digit `d`. -/
def wdTile (V : Fin 10 → Vec F S768x128 .i8) (I : Vec F S48x1280 .i32) (c : Fin 10) (kb : Fin 6) (d : Fin 8) : FVec F ⟨2, ![32, 128]⟩ .fp8e4m3 :=
  tile (F := F) (V c) (View.ld (Val := Elt F) I (Rect.unit ![8 * kb.val, 128 * c.val] S8x128.size (idxRect_inb c kb))) ![32 * kb.val, 0] ![0, d.val / 2, 0]
    (BitVec.ofNat 32 (4 * d.val)) (BitVec.ofNat 32 (4 * d.val + 2)) (BitVec.ofNat 32 (16 * (d.val % 2))) (BitVec.ofNat 32 (16 * (d.val % 2) + 8))
    (by decide) (tileOff_slices kb) (by decide) (tileStart_slices d) (by decide) (by decide) (by decide)

/-- The piece that stores it. -/
def wdPiece (V : Fin 10 → Vec F S768x128 .i8) (I : Vec F S48x1280 .i32) (c : Fin 10) (kb : Fin 6) (d : Fin 8) : View.Piece (Elt F) S1536x1280 .fp8e4m3 :=
  ⟨Rect.unit ![256 * kb.val + 32 * d.val, 128 * c.val] S32x128.size (wdRect_inb c kb d), wdTile V I c kb d⟩

/-- All tiles, newest first. -/
def wdList (V : Fin 10 → Vec F S768x128 .i8) (I : Vec F S48x1280 .i32) : List (View.Piece (Elt F) S1536x1280 .fp8e4m3) :=
  ([9, 8, 7, 6, 5, 4, 3, 2, 1, 0] : List (Fin 10)).flatMap fun c => ([5, 4, 3, 2, 1, 0] : List (Fin 6)).flatMap fun kb =>
    ([7, 6, 5, 4, 3, 2, 1, 0] : List (Fin 8)).map fun d => wdPiece V I c kb d

/-- The dense weight of one point. -/
def WD (V : Fin 10 → Vec F S768x128 .i8) (I : Vec F S48x1280 .i32) : Vec F S1536x1280 .fp8e4m3 := fun y =>
  wdTile V I ⟨(y 1).val / 128, by have : (y 1).val < 1280 := (y 1).isLt; omega⟩ ⟨(y 0).val / 256, by have : (y 0).val < 1536 := (y 0).isLt; omega⟩
    ⟨(y 0).val % 256 / 32, by omega⟩ (ValueIdx.ix2 ⟨(y 0).val % 32, by omega⟩ ⟨(y 1).val % 128, by omega⟩)

theorem wdList_pieces (V : Fin 10 → Vec F S768x128 .i8) (I : Vec F S48x1280 .i32) :
    ∀ p ∈ wdList V I, ∀ x, p.2 x = WD V I (p.1.emb x) := by
  intro p hp
  unfold wdList at hp
  simp only [List.mem_flatMap, List.mem_map] at hp
  obtain ⟨c, -, kb, -, d, -, rfl⟩ := hp
  intro x
  have h0 : (x 0).val < 32 := (x 0).isLt
  have h1 : (x 1).val < 128 := (x 1).isLt
  have e0 : (((wdPiece V I c kb d).1.emb x) 0).val = 256 * kb.val + 32 * d.val + 1 * (x 0).val := rfl
  have e1 : (((wdPiece V I c kb d).1.emb x) 1).val = 128 * c.val + 1 * (x 1).val := rfl
  have hd := d.isLt
  unfold WD
  have hc : (⟨(((wdPiece V I c kb d).1.emb x) 1).val / 128, by rw [e1]; have := c.isLt; omega⟩ : Fin 10) = c := Fin.ext (by show _ / 128 = _; rw [e1]; omega)
  have hk : (⟨(((wdPiece V I c kb d).1.emb x) 0).val / 256, by rw [e0]; have := kb.isLt; omega⟩ : Fin 6) = kb := Fin.ext (by show _ / 256 = _; rw [e0]; omega)
  have hdd : (⟨(((wdPiece V I c kb d).1.emb x) 0).val % 256 / 32, by omega⟩ : Fin 8) = d := Fin.ext (by show _ % 256 / 32 = _; rw [e0]; omega)
  have hx : (ValueIdx.ix2 ⟨(((wdPiece V I c kb d).1.emb x) 0).val % 32, by omega⟩ ⟨(((wdPiece V I c kb d).1.emb x) 1).val % 128, by omega⟩ : (⟨2, ![32, 128]⟩ : Shape).Idx) = x := by
    funext a
    match a with
    | ⟨0, _⟩ => exact Fin.ext (by show _ % 32 = _; rw [e0]; show _ = (x 0).val; omega)
    | ⟨1, _⟩ => exact Fin.ext (by show _ % 128 = _; rw [e1]; show _ = (x 1).val; omega)
  rw [hc, hk, hdd, hx]
  rfl

theorem wdList_cover (V : Fin 10 → Vec F S768x128 .i8) (I : Vec F S48x1280 .i32) (y : S1536x1280.Idx) : ∃ p ∈ wdList V I, y ∈ p.1.set := by
  have h0 : (y 0).val < 1536 := (y 0).isLt
  have h1 : (y 1).val < 1280 := (y 1).isLt
  refine ⟨wdPiece V I ⟨(y 1).val / 128, by omega⟩ ⟨(y 0).val / 256, by omega⟩ ⟨(y 0).val % 256 / 32, by omega⟩, ?_, ?_⟩
  · unfold wdList
    simp only [List.mem_flatMap, List.mem_map]
    refine ⟨_, ?_, _, ?_, _, ?_, rfl⟩
    · generalize (⟨(y 1).val / 128, _⟩ : Fin 10) = c; revert c; decide
    · generalize (⟨(y 0).val / 256, _⟩ : Fin 6) = c; revert c; decide
    · generalize (⟨(y 0).val % 256 / 32, _⟩ : Fin 8) = c; revert c; decide
  · unfold wdPiece; refine (Rect.mem_set_unit (inb := wdRect_inb _ _ _)).mpr fun a => ?_
    match a with
    | ⟨0, _⟩ =>
      show 256 * ((y 0).val / 256) + 32 * ((y 0).val % 256 / 32) ≤ (y 0).val ∧ (y 0).val < 256 * ((y 0).val / 256) + 32 * ((y 0).val % 256 / 32) + 32
      omega
    | ⟨1, _⟩ =>
      show 128 * ((y 1).val / 128) ≤ (y 1).val ∧ (y 1).val < 128 * ((y 1).val / 128) + 128
      omega

theorem wdList_canon [∀ e, Nonempty (Elt F e)] (V : Fin 10 → Vec F S768x128 .i8) (I : Vec F S48x1280 .i32) : View.canon (wdList V I) = WD V I :=
  funext fun y => View.canon_apply_of_pieces (WD V I) (wdList V I) (wdList_pieces V I) y (wdList_cover V I y)

/-! ## The product -/

theorem yRect_inb (r : Fin 3) (c : Fin 5) :
    ∀ a : Fin S1536x1280.rank, (![512 * r.val, 256 * c.val] : Fin 2 → ℕ) a + S512x256.size a ≤ S1536x1280.size a := by
  revert r c; decide

theorem xpRect_inb (r : Fin 3) : ∀ a : Fin S1536x1536.rank, (![512 * r.val, 0] : Fin 2 → ℕ) a + S512x1536.size a ≤ S1536x1536.size a := by
  revert r; decide

theorem xsRect_inb (r : Fin 3) : ∀ a : Fin S1536x128.rank, (![512 * r.val, 0] : Fin 2 → ℕ) a + S512x128.size a ≤ S1536x128.size a := by
  revert r; decide

theorem wdRead_inb (c : Fin 5) : ∀ a : Fin S1536x1280.rank, (![0, 256 * c.val] : Fin 2 → ℕ) a + S1536x256.size a ≤ S1536x1280.size a := by
  revert c; decide

theorem wsRect_inb (c : Fin 5) : ∀ a : Fin S1x1280.rank, (![0, 256 * c.val] : Fin 2 → ℕ) a + S1x256.size a ≤ S1x1280.size a := by
  revert c; decide

/-- The tile of the product at row block `r`, column block `c`, over what the reads of the dense weight yield. -/
def yTile (XP : Vec F S1536x1536 .fp8e4m3) (XS : Vec F S1536x128 .f32) (WR : Fin 5 → Vec F S1536x256 .fp8e4m3) (WS : Vec F S1x1280 .f32)
    (r : Fin 3) (c : Fin 5) : Vec F S512x256 .bf16 :=
  k0_pay2 (View.ld (Val := Elt F) XP (Rect.unit ![512 * r.val, 0] S512x1536.size (xpRect_inb r))) (WR c)
    (View.ld (Val := Elt F) XS (Rect.unit ![512 * r.val, 0] S512x128.size (xsRect_inb r)))
    (View.ld (Val := Elt F) WS (Rect.unit ![0, 256 * c.val] S1x256.size (wsRect_inb c)))

/-- The piece that stores it. -/
def yPiece (XP : Vec F S1536x1536 .fp8e4m3) (XS : Vec F S1536x128 .f32) (WR : Fin 5 → Vec F S1536x256 .fp8e4m3) (WS : Vec F S1x1280 .f32)
    (r : Fin 3) (c : Fin 5) : View.Piece (Elt F) S1536x1280 .bf16 :=
  ⟨Rect.unit ![512 * r.val, 256 * c.val] S512x256.size (yRect_inb r c), yTile XP XS WR WS r c⟩

/-- All of them, newest first. -/
def yList (XP : Vec F S1536x1536 .fp8e4m3) (XS : Vec F S1536x128 .f32) (WR : Fin 5 → Vec F S1536x256 .fp8e4m3) (WS : Vec F S1x1280 .f32) :
    List (View.Piece (Elt F) S1536x1280 .bf16) :=
  ([2, 1, 0] : List (Fin 3)).flatMap fun r => ([4, 3, 2, 1, 0] : List (Fin 5)).map fun c => yPiece XP XS WR WS r c

/-- The product block of one point. -/
def YB (XP : Vec F S1536x1536 .fp8e4m3) (XS : Vec F S1536x128 .f32) (WR : Fin 5 → Vec F S1536x256 .fp8e4m3) (WS : Vec F S1x1280 .f32) :
    Vec F S1536x1280 .bf16 := fun y =>
  yTile XP XS WR WS ⟨(y 0).val / 512, by have : (y 0).val < 1536 := (y 0).isLt; omega⟩ ⟨(y 1).val / 256, by have : (y 1).val < 1280 := (y 1).isLt; omega⟩
    (ValueIdx.ix2 ⟨(y 0).val % 512, by omega⟩ ⟨(y 1).val % 256, by omega⟩)

theorem yList_pieces (XP : Vec F S1536x1536 .fp8e4m3) (XS : Vec F S1536x128 .f32) (WR : Fin 5 → Vec F S1536x256 .fp8e4m3) (WS : Vec F S1x1280 .f32) :
    ∀ p ∈ yList XP XS WR WS, ∀ x, p.2 x = YB XP XS WR WS (p.1.emb x) := by
  intro p hp
  unfold yList at hp
  simp only [List.mem_flatMap, List.mem_map] at hp
  obtain ⟨r, -, c, -, rfl⟩ := hp
  intro x
  have h0 : (x 0).val < 512 := (x 0).isLt
  have h1 : (x 1).val < 256 := (x 1).isLt
  have e0 : (((yPiece XP XS WR WS r c).1.emb x) 0).val = 512 * r.val + 1 * (x 0).val := rfl
  have e1 : (((yPiece XP XS WR WS r c).1.emb x) 1).val = 256 * c.val + 1 * (x 1).val := rfl
  unfold YB
  have hc : (⟨(((yPiece XP XS WR WS r c).1.emb x) 1).val / 256, by rw [e1]; have := c.isLt; omega⟩ : Fin 5) = c := Fin.ext (by show _ / 256 = _; rw [e1]; omega)
  have hr : (⟨(((yPiece XP XS WR WS r c).1.emb x) 0).val / 512, by rw [e0]; have := r.isLt; omega⟩ : Fin 3) = r := Fin.ext (by show _ / 512 = _; rw [e0]; omega)
  have hx : (ValueIdx.ix2 ⟨(((yPiece XP XS WR WS r c).1.emb x) 0).val % 512, by omega⟩ ⟨(((yPiece XP XS WR WS r c).1.emb x) 1).val % 256, by omega⟩ : (⟨2, ![512, 256]⟩ : Shape).Idx) = x := by
    funext a
    match a with
    | ⟨0, _⟩ => exact Fin.ext (by show _ % 512 = _; rw [e0]; show _ = (x 0).val; omega)
    | ⟨1, _⟩ => exact Fin.ext (by show _ % 256 = _; rw [e1]; show _ = (x 1).val; omega)
  rw [hc, hr]
  exact congrArg (yTile XP XS WR WS r c) hx.symm

theorem yList_cover (XP : Vec F S1536x1536 .fp8e4m3) (XS : Vec F S1536x128 .f32) (WR : Fin 5 → Vec F S1536x256 .fp8e4m3) (WS : Vec F S1x1280 .f32)
    (y : S1536x1280.Idx) : ∃ p ∈ yList XP XS WR WS, y ∈ p.1.set := by
  have h0 : (y 0).val < 1536 := (y 0).isLt
  have h1 : (y 1).val < 1280 := (y 1).isLt
  refine ⟨yPiece XP XS WR WS ⟨(y 0).val / 512, by omega⟩ ⟨(y 1).val / 256, by omega⟩, ?_, ?_⟩
  · unfold yList
    simp only [List.mem_flatMap, List.mem_map]
    refine ⟨_, ?_, _, ?_, rfl⟩
    · generalize (⟨(y 0).val / 512, _⟩ : Fin 3) = c; revert c; decide
    · generalize (⟨(y 1).val / 256, _⟩ : Fin 5) = c; revert c; decide
  · unfold yPiece; refine (Rect.mem_set_unit (inb := yRect_inb _ _)).mpr fun a => ?_
    match a with
    | ⟨0, _⟩ =>
      show 512 * ((y 0).val / 512) ≤ (y 0).val ∧ (y 0).val < 512 * ((y 0).val / 512) + 512
      omega
    | ⟨1, _⟩ =>
      show 256 * ((y 1).val / 256) ≤ (y 1).val ∧ (y 1).val < 256 * ((y 1).val / 256) + 256
      omega

theorem yList_canon [∀ e, Nonempty (Elt F e)] (XP : Vec F S1536x1536 .fp8e4m3) (XS : Vec F S1536x128 .f32) (WR : Fin 5 → Vec F S1536x256 .fp8e4m3)
    (WS : Vec F S1x1280 .f32) : View.canon (yList XP XS WR WS) = YB XP XS WR WS :=
  funext fun y => View.canon_apply_of_pieces _ _ (yList_pieces XP XS WR WS) y (yList_cover XP XS WR WS y)

end Cert.KernelIdeal.Gen
-- ==== Proof.KRunA.lean ====
/- The body of the kernel at the first point, with what it leaves named. -/
module

public import proofs.«01_k».proof.Proof.KRuns

public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 12000000 in
/-- The body at the first point: the pieces of the product block, of the codes, the scales and the two scratch buffers that keep them are found by the run. -/
def kernelRunA  (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i)

    (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32)
    (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    { L : List (View.Piece (Elt F) S1536x1280 .bf16) × List (View.Piece (Elt F) S1536x1536 .fp8e4m3) × List (View.Piece (Elt F) S1536x1 .f32) × List (View.Piece (Elt F) S1536x1536 .fp8e4m3) × List (View.Piece (Elt F) S1536x128 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (arg14.view.loc (c : Thread nD τ) ↦[arg14.view.set]{fullShare} arg14.view.writes (Elt F) f14 L.1) ∗ (arg15.view.loc (c : Thread nD τ) ↦[arg15.view.set]{fullShare} arg15.view.writes (Elt F) f15 L.2.1) ∗ (arg16.view.loc (c : Thread nD τ) ↦[arg16.view.set]{fullShare} arg16.view.writes (Elt F) f16 L.2.2.1) ∗ (arg17.view.loc (c : Thread nD τ) ↦[arg17.view.set]{fullShare} arg17.view.writes (Elt F) f17 L.2.2.2.1) ∗ (arg18.view.loc (c : Thread nD τ) ↦[arg18.view.set]{fullShare} arg18.view.writes (Elt F) f18 L.2.2.2.2) ∗ (∃ d, owns (c : Thread nD τ) arg19 fullShare d)) -∗ K ()))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_, ?_⟩, fun E K => ?run⟩
  case run =>
    simp only [cc0_sparse24_fp8_linear_eq_skeleton]; unfold cc0_sparse24_fp8_linear_skel
    simp only [k0_part373_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part374_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part375_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part376_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part377_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part378_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, H14, H15, HS0, HS1, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexact H13
    isplitl [H14]; · iexact H14
    isplitl [H15]; · iexact H15
    isplitl [HS0]; · iexact HS0
    isplitl [HS1]; · iexact HS1
    iexists _, _; isplitr; swap; · iexact HS2
    ipureintro; rfl

end Cert.KernelIdeal.Gen

end
-- ==== Proof.KListA.lean ====
/- The pieces the body's runs found, as the lists named by position. -/
module

public import proofs.«01_k».proof.Proof.KBody
public import proofs.«01_k».proof.Proof.KRunA
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Sparse

variable {F : FTy → Type} [FloatOps F]

set_option maxHeartbeats 4000000 in
/-- The tiles of the dense weight. -/
theorem runA_wd (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) :
    kernelRunA.sl.HS2_480 (F := F) c arg2 harg2 arg3 harg3 arg4 harg4 arg5 harg5 arg6 harg6 arg7 harg7 arg8 harg8 arg9 harg9 arg10 harg10 arg11 harg11 arg12 harg12 x1 x2 x3 x4 x5 x6 x7 x8 x9 x10 x11 = wdList (![View.readAt (Elt F) arg2.view (Rect.unit ![0, 0] S768x128.size (by decide)).toLoadRect (harg2.unread x1), View.readAt (Elt F) arg3.view (Rect.unit ![0, 0] S768x128.size (by decide)).toLoadRect (harg3.unread x2), View.readAt (Elt F) arg4.view (Rect.unit ![0, 0] S768x128.size (by decide)).toLoadRect (harg4.unread x3), View.readAt (Elt F) arg5.view (Rect.unit ![0, 0] S768x128.size (by decide)).toLoadRect (harg5.unread x4), View.readAt (Elt F) arg6.view (Rect.unit ![0, 0] S768x128.size (by decide)).toLoadRect (harg6.unread x5), View.readAt (Elt F) arg7.view (Rect.unit ![0, 0] S768x128.size (by decide)).toLoadRect (harg7.unread x6), View.readAt (Elt F) arg8.view (Rect.unit ![0, 0] S768x128.size (by decide)).toLoadRect (harg8.unread x7), View.readAt (Elt F) arg9.view (Rect.unit ![0, 0] S768x128.size (by decide)).toLoadRect (harg9.unread x8), View.readAt (Elt F) arg10.view (Rect.unit ![0, 0] S768x128.size (by decide)).toLoadRect (harg10.unread x9), View.readAt (Elt F) arg11.view (Rect.unit ![0, 0] S768x128.size (by decide)).toLoadRect (harg11.unread x10)]) (arg12.view.read (Elt F) (harg12.unread x11)) := by
  sl_kernel_rfl

set_option maxHeartbeats 4000000 in
/-- The tiles of the product. -/
theorem runA_y (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.1 = yList (arg17.view.read (Elt F) (arg17.view.writes (Elt F) f17 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg1.unread x0) k0_t1_loop.trips).2.2.1)) (arg18.view.read (Elt F) (arg18.view.writes (Elt F) f18 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg1.unread x0) k0_t1_loop.trips).2.2.2)) (fun q => arg19.view.readCov (wdList (![View.readAt (Elt F) arg2.view (Rect.unit ![0, 0] S768x128.size (by decide)).toLoadRect (harg2.unread x1), View.readAt (Elt F) arg3.view (Rect.unit ![0, 0] S768x128.size (by decide)).toLoadRect (harg3.unread x2), View.readAt (Elt F) arg4.view (Rect.unit ![0, 0] S768x128.size (by decide)).toLoadRect (harg4.unread x3), View.readAt (Elt F) arg5.view (Rect.unit ![0, 0] S768x128.size (by decide)).toLoadRect (harg5.unread x4), View.readAt (Elt F) arg6.view (Rect.unit ![0, 0] S768x128.size (by decide)).toLoadRect (harg6.unread x5), View.readAt (Elt F) arg7.view (Rect.unit ![0, 0] S768x128.size (by decide)).toLoadRect (harg7.unread x6), View.readAt (Elt F) arg8.view (Rect.unit ![0, 0] S768x128.size (by decide)).toLoadRect (harg8.unread x7), View.readAt (Elt F) arg9.view (Rect.unit ![0, 0] S768x128.size (by decide)).toLoadRect (harg9.unread x8), View.readAt (Elt F) arg10.view (Rect.unit ![0, 0] S768x128.size (by decide)).toLoadRect (harg10.unread x9), View.readAt (Elt F) arg11.view (Rect.unit ![0, 0] S768x128.size (by decide)).toLoadRect (harg11.unread x10)]) (arg12.view.read (Elt F) (harg12.unread x11))) (Rect.unit (s := S1536x1280) ![0, 256 * q.val] S1536x256.size (wdRead_inb q)).toLoadRect) (arg13.view.read (Elt F) (harg13.unread x12)) := by
  sl_kernel_rfl

set_option maxHeartbeats 4000000 in
/-- What the quantising loop leaves. -/
theorem runA_q (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.2 = (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg1.unread x0) k0_t1_loop.trips) := by
  sl_kernel_rfl

end Cert.KernelIdeal.Gen
-- ==== Proof.KRunB.lean ====
/- The body of the kernel at a point after the first, with what it leaves named. -/
module

public import proofs.«01_k».proof.Proof.KRuns

public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 12000000 in
/-- The body at a point after the first: the quantised rows are read from the scratch as the first point left them (`xp`, `xs`); the pieces of the product block are found by the run. -/
def kernelRunB  (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : ¬cond0_0 i)

    (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32)
    (xp : Vec F S1536x1536 .fp8e4m3) (xs : Vec F S1536x128 .f32) (f14 : BufTy.Contents (Elt F) arg14.view.ty) :
    { L14 : List (View.Piece (Elt F) S1536x1280 .bf16) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg17 fullShare xp ∗ owns (c : Thread nD τ) arg18 fullShare xs ∗ (arg14.view.loc (c : Thread nD τ) ↦[arg14.view.set]{fullShare} f14) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg17 fullShare xp ∗ owns (c : Thread nD τ) arg18 fullShare xs ∗ (arg14.view.loc (c : Thread nD τ) ↦[arg14.view.set]{fullShare} arg14.view.writes (Elt F) f14 L14) ∗ (∃ d, owns (c : Thread nD τ) arg19 fullShare d)) -∗ K ()))
          ⊢ wp frame (wpE (defs₀ (F := F)) Variants.none c none) E (cc0_sparse24_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_sparse24_fp8_linear_eq_skeleton]; unfold cc0_sparse24_fp8_linear_skel
    simp only [k0_part373_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part374_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part375_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part376_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part377_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part378_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, H13, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg17.eq_unread hfs0; obtain rfl := harg18.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]
    · iexists _; isplitr; · ipureintro; exact harg17.read_unread _
      iexact HS0
    isplitl [HS1]
    · iexists _; isplitr; · ipureintro; exact harg18.read_unread _
      iexact HS1
    isplitl [H13]; · iexact H13
    iexists _, _; isplitr; swap; · iexact HS2
    ipureintro; rfl

end Cert.KernelIdeal.Gen

end
-- ==== Proof.KListB.lean ====
/- The pieces the body's runs found, as the lists named by position. -/
module

public import proofs.«01_k».proof.Proof.KBody
public import proofs.«01_k».proof.Proof.KRunB
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Sparse

variable {F : FTy → Type} [FloatOps F]

set_option maxHeartbeats 4000000 in
/-- The tiles of the dense weight. -/
theorem runB_wd (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : ¬cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) :
    kernelRunB.sl.HS2_480 (F := F) c arg2 harg2 arg3 harg3 arg4 harg4 arg5 harg5 arg6 harg6 arg7 harg7 arg8 harg8 arg9 harg9 arg10 harg10 arg11 harg11 arg12 harg12 x1 x2 x3 x4 x5 x6 x7 x8 x9 x10 x11 = wdList (![View.readAt (Elt F) arg2.view (Rect.unit ![0, 0] S768x128.size (by decide)).toLoadRect (harg2.unread x1), View.readAt (Elt F) arg3.view (Rect.unit ![0, 0] S768x128.size (by decide)).toLoadRect (harg3.unread x2), View.readAt (Elt F) arg4.view (Rect.unit ![0, 0] S768x128.size (by decide)).toLoadRect (harg4.unread x3), View.readAt (Elt F) arg5.view (Rect.unit ![0, 0] S768x128.size (by decide)).toLoadRect (harg5.unread x4), View.readAt (Elt F) arg6.view (Rect.unit ![0, 0] S768x128.size (by decide)).toLoadRect (harg6.unread x5), View.readAt (Elt F) arg7.view (Rect.unit ![0, 0] S768x128.size (by decide)).toLoadRect (harg7.unread x6), View.readAt (Elt F) arg8.view (Rect.unit ![0, 0] S768x128.size (by decide)).toLoadRect (harg8.unread x7), View.readAt (Elt F) arg9.view (Rect.unit ![0, 0] S768x128.size (by decide)).toLoadRect (harg9.unread x8), View.readAt (Elt F) arg10.view (Rect.unit ![0, 0] S768x128.size (by decide)).toLoadRect (harg10.unread x9), View.readAt (Elt F) arg11.view (Rect.unit ![0, 0] S768x128.size (by decide)).toLoadRect (harg11.unread x10)]) (arg12.view.read (Elt F) (harg12.unread x11)) := by
  sl_kernel_rfl

set_option maxHeartbeats 4000000 in
/-- The tiles of the product. -/
theorem runB_y (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : ¬cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (xp : Vec F S1536x1536 .fp8e4m3) (xs : Vec F S1536x128 .f32) (f14 : BufTy.Contents (Elt F) arg14.view.ty) :
    (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xp xs f14).1 = yList (arg17.view.read (Elt F) (harg17.unread xp)) (arg18.view.read (Elt F) (harg18.unread xs)) (fun q => arg19.view.readCov (wdList (![View.readAt (Elt F) arg2.view (Rect.unit ![0, 0] S768x128.size (by decide)).toLoadRect (harg2.unread x1), View.readAt (Elt F) arg3.view (Rect.unit ![0, 0] S768x128.size (by decide)).toLoadRect (harg3.unread x2), View.readAt (Elt F) arg4.view (Rect.unit ![0, 0] S768x128.size (by decide)).toLoadRect (harg4.unread x3), View.readAt (Elt F) arg5.view (Rect.unit ![0, 0] S768x128.size (by decide)).toLoadRect (harg5.unread x4), View.readAt (Elt F) arg6.view (Rect.unit ![0, 0] S768x128.size (by decide)).toLoadRect (harg6.unread x5), View.readAt (Elt F) arg7.view (Rect.unit ![0, 0] S768x128.size (by decide)).toLoadRect (harg7.unread x6), View.readAt (Elt F) arg8.view (Rect.unit ![0, 0] S768x128.size (by decide)).toLoadRect (harg8.unread x7), View.readAt (Elt F) arg9.view (Rect.unit ![0, 0] S768x128.size (by decide)).toLoadRect (harg9.unread x8), View.readAt (Elt F) arg10.view (Rect.unit ![0, 0] S768x128.size (by decide)).toLoadRect (harg10.unread x9), View.readAt (Elt F) arg11.view (Rect.unit ![0, 0] S768x128.size (by decide)).toLoadRect (harg11.unread x10)]) (arg12.view.read (Elt F) (harg12.unread x11))) (Rect.unit (s := S1536x1280) ![0, 256 * q.val] S1536x256.size (wdRead_inb q)).toLoadRect) (arg13.view.read (Elt F) (harg13.unread x12)) := by
  sl_kernel_rfl

end Cert.KernelIdeal.Gen
-- ==== Proof.KLoop.lean ====
/- What the quantising loop writes, as functions of the block it reads. -/
module

public import proofs.«01_k».proof.Proof.KBody
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Sparse

variable {F : FTy → Type} [FloatOps F]

theorem trips_eq : k0_t1_loop.trips = 24 := by decide

theorem off1_eq (k : Fin k0_t1_loop.trips) : k0_off1 k = ![64 * k.val, 0] := by revert k; decide
theorem off2_eq (k : Fin k0_t1_loop.trips) : k0_off2 k = ![64 * k.val, 0] := by revert k; decide
theorem off3_eq (k : Fin k0_t1_loop.trips) : k0_off3 k = ![64 * k.val, 0] := by revert k; decide
theorem off4_row (k : Fin k0_t1_loop.trips) (r : Fin 2) : k0_off4 k (BitVec.ofNat 32 (32 * r.val)) 0 = 64 * k.val + 32 * r.val := by
  revert k r; decide

theorem off1_inb (k : Fin k0_t1_loop.trips) : ∀ a : Fin S1536x1536.rank, k0_off1 k a + S64x1536.size a ≤ S1536x1536.size a := by revert k; decide
theorem off2_inb (k : Fin k0_t1_loop.trips) : ∀ a : Fin S1536x1.rank, k0_off2 k a + S64x1.size a ≤ S1536x1.size a := by revert k; decide
theorem off3_inb (k : Fin k0_t1_loop.trips) : ∀ a : Fin S1536x128.rank, k0_off3 k a + S64x128.size a ≤ S1536x128.size a := by revert k; decide

/-- Where trip `k` stores the tile of rows `32 r …`, columns `256 kb + 128 h …` of the permuted codes. -/
def xpOff (k : Fin k0_t1_loop.trips) (r : Fin 2) (kb : Fin 6) (h : Fin 2) : Fin 2 → ℕ :=
  ![k0_off4 k (BitVec.ofNat 32 (32 * r.val)) 0, 256 * kb.val + 128 * h.val]

theorem xpOff_inb (k : Fin k0_t1_loop.trips) (r : Fin 2) (kb : Fin 6) (h : Fin 2) :
    ∀ a : Fin S1536x1536.rank, xpOff k r kb h a + S32x128.size a ≤ S1536x1536.size a := by
  intro a
  have hk : k.val < 24 := trips_eq ▸ k.isLt
  unfold xpOff
  match a with
  | ⟨0, _⟩ =>
    show k0_off4 k (BitVec.ofNat 32 (32 * r.val)) 0 + 32 ≤ 1536
    rw [off4_row]; omega
  | ⟨1, _⟩ =>
    show 256 * kb.val + 128 * h.val + 128 ≤ 1536
    omega

/-- The rows of the block trip `k` reads. -/
def rowsX (X : Vec F S1536x1536 .bf16) (k : Fin k0_t1_loop.trips) : Vec F S64x1536 .f32 :=
  k0_pay3 (View.ld (Val := Elt F) X (Rect.unit (k0_off1 k) S64x1536.size (off1_inb k)))

def rawX (X : Vec F S1536x1536 .bf16) (k : Fin k0_t1_loop.trips) : Vec F S64x1536 .bf16 :=
  View.ld (Val := Elt F) X (Rect.unit (k0_off1 k) S64x1536.size (off1_inb k))

/-- The codes of trip `k`. -/
def cTile (X : Vec F S1536x1536 .bf16) (k : Fin k0_t1_loop.trips) : Vec F S64x1536 .fp8e4m3 := k0_pay8 (k0_pay3 (rawX X k)) (k0_pay5 (rawX X k))

/-- The scales of trip `k`. -/
def sTile (X : Vec F S1536x1536 .bf16) (k : Fin k0_t1_loop.trips) : Vec F S64x1 .f32 := k0_pay7 (k0_pay4 (rawX X k)) k0_pay6

/-- The scales of trip `k`, along the lanes. -/
def xsTile (X : Vec F S1536x1536 .bf16) (k : Fin k0_t1_loop.trips) : Vec F S64x128 .f32 := k0_pay9 (k0_pay4 (rawX X k)) k0_pay6

theorem half1_slices (r : Fin 2) (kb : Fin 6) (h : Fin 2) :
    S64x1536.Slices ![32 * r.val, 256 * kb.val + 128 * h.val] ⟨2, ![32, 1536 - (256 * kb.val + 128 * h.val)]⟩ := by revert r kb h; decide

theorem half2_slices (kb : Fin 6) (h : Fin 2) :
    (⟨2, ![32, 1536 - (256 * kb.val + 128 * h.val)]⟩ : Shape).Slices ![0, 0] S32x128 := by revert kb h; decide

theorem half3_slices (r : Fin 2) : S64x1536.Slices ![32 * r.val, 1408] S32x128 := by revert r; decide

/-- One of the two lane halves the gather reads. -/
def halfOf (C : Vec F S64x1536 .fp8e4m3) (r : Fin 2) (kb : Fin 6) (h : Fin 2) : FVec F S32x128 .f32 :=
  if 256 * kb.val + 128 * h.val = 1408 then
    extf .f32 (extractStridedSlice S32x128 ![32 * r.val, 1408] C (half3_slices r)) bitsLt_fp8e4m3_f32
  else
    extf .f32 (extractStridedSlice S32x128 ![0, 0]
      (extractStridedSlice ⟨2, ![32, 1536 - (256 * kb.val + 128 * h.val)]⟩ ![32 * r.val, 256 * kb.val + 128 * h.val] C (half1_slices r kb h)) (half2_slices kb h)) bitsLt_fp8e4m3_f32

/-- The lane each lane takes. -/
def permW (h : Fin 2) : IVec S32x128 32 :=
  let a := addi (broadcast S32x128 (BitVec.ofNat 32 (128 * h.val))) (iota .tc S32x128 32 [1] iota_S32x128_d1_w32)
  addi (addi (muli (broadcast S32x128 32#32) (andi (shrsi a (broadcast S32x128 2#32)) (broadcast S32x128 7#32)))
    (muli (broadcast S32x128 4#32) (shrsi a (broadcast S32x128 5#32)))) (andi a (broadcast S32x128 3#32))

/-- One tile of the permuted codes. -/
def xpTileOf (C : Vec F S64x1536 .fp8e4m3) (r : Fin 2) (kb : Fin 6) (h : Fin 2) : FVec F S32x128 .fp8e4m3 :=
  k0_pay13 (halfOf C r kb 0) (halfOf C r kb 1) (permW h)

def xpPiece (X : Vec F S1536x1536 .bf16) (k : Fin k0_t1_loop.trips) (r : Fin 2) (kb : Fin 6) (h : Fin 2) : View.Piece (Elt F) S1536x1536 .fp8e4m3 :=
  ⟨Rect.unit (xpOff k r kb h) S32x128.size (xpOff_inb k r kb h), xpTileOf (cTile X k) r kb h⟩

/-- The tiles of the permuted codes trip `k` writes, newest first. -/
def xpList (X : Vec F S1536x1536 .bf16) (k : Fin k0_t1_loop.trips) : List (View.Piece (Elt F) S1536x1536 .fp8e4m3) :=
  ([1, 0] : List (Fin 2)).flatMap fun r => ([5, 4, 3, 2, 1, 0] : List (Fin 6)).flatMap fun kb => ([1, 0] : List (Fin 2)).map fun h => xpPiece X k r kb h

def cPiece (X : Vec F S1536x1536 .bf16) (k : Fin k0_t1_loop.trips) : View.Piece (Elt F) S1536x1536 .fp8e4m3 :=
  ⟨Rect.unit (k0_off1 k) S64x1536.size (off1_inb k), cTile X k⟩

def sPiece (X : Vec F S1536x1536 .bf16) (k : Fin k0_t1_loop.trips) : View.Piece (Elt F) S1536x1 .f32 :=
  ⟨Rect.unit (k0_off2 k) S64x1.size (off2_inb k), sTile X k⟩

def xsPiece (X : Vec F S1536x1536 .bf16) (k : Fin k0_t1_loop.trips) : View.Piece (Elt F) S1536x128 .f32 :=
  ⟨Rect.unit (k0_off3 k) S64x128.size (off3_inb k), xsTile X k⟩

set_option maxHeartbeats 4000000 in
/-- The stores of one trip. -/
theorem trip_eq (𝒱 : Variants) (bd : Option 𝒱.V) (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (k0_h1 : k0_cond1 i = 1#1) (X : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k = ([cPiece (arg1.view.read (Elt F) X) k], [sPiece (arg1.view.read (Elt F) X) k], xpList (arg1.view.read (Elt F) X) k, [xsPiece (arg1.view.read (Elt F) X) k]) := by
  sl_kernel_rfl

/-! ## The four buffers after the loop -/

theorem row_trip (n : ℕ) (h : n < 1536) : n / 64 < k0_t1_loop.trips := by rw [trips_eq]; omega

/-- The codes. -/
def CODES (X : Vec F S1536x1536 .bf16) : Vec F S1536x1536 .fp8e4m3 := fun y =>
  cTile X ⟨(y 0).val / 64, row_trip _ (y 0).isLt⟩ (ValueIdx.ix2 (n0 := 64) (n1 := 1536) ⟨(y 0).val % 64, by omega⟩ (y 1))

/-- The scales. -/
def SCALES (X : Vec F S1536x1536 .bf16) : Vec F S1536x1 .f32 := fun y =>
  sTile X ⟨(y 0).val / 64, row_trip _ (y 0).isLt⟩ (ValueIdx.ix2 (n0 := 64) (n1 := 1) ⟨(y 0).val % 64, by omega⟩ (y 1))

/-- The scales along the lanes. -/
def XSV (X : Vec F S1536x1536 .bf16) : Vec F S1536x128 .f32 := fun y =>
  xsTile X ⟨(y 0).val / 64, row_trip _ (y 0).isLt⟩ (ValueIdx.ix2 (n0 := 64) (n1 := 128) ⟨(y 0).val % 64, by omega⟩ (y 1))

/-- The permuted codes. -/
def XPV (X : Vec F S1536x1536 .bf16) : Vec F S1536x1536 .fp8e4m3 := fun y =>
  xpTileOf (cTile X ⟨(y 0).val / 64, row_trip _ (y 0).isLt⟩) ⟨(y 0).val % 64 / 32, by omega⟩
    ⟨(y 1).val / 256, by have : (y 1).val < 1536 := (y 1).isLt; omega⟩ ⟨(y 1).val % 256 / 128, by omega⟩
    (ValueIdx.ix2 (n0 := 32) (n1 := 128) ⟨(y 0).val % 32, by omega⟩ ⟨(y 1).val % 128, by omega⟩)

/-- A row of trip `k`. -/
theorem row_fin (k : Fin k0_t1_loop.trips) (n j : ℕ) (hn : n = 64 * k.val + j) (hj : j < 64) (h) : (⟨n / 64, h⟩ : Fin k0_t1_loop.trips) = k :=
  Fin.ext (by show n / 64 = _; omega)

theorem c_agree (X : Vec F S1536x1536 .bf16) (k : Fin k0_t1_loop.trips) (x) : (cPiece X k).2 x = CODES X ((cPiece X k).1.emb x) := by
  have h0 : (x 0).val < 64 := (x 0).isLt
  have e0 : (((cPiece X k).1.emb x) 0).val = 64 * k.val + 1 * (x 0).val := by
    show k0_off1 k 0 + 1 * (x 0).val = _
    rw [off1_eq]; rfl
  have e1 : (((cPiece X k).1.emb x) 1).val = (x 1).val := by
    show k0_off1 k 1 + 1 * (x 1).val = _
    rw [off1_eq]; show 0 + 1 * (x 1).val = _; omega
  unfold CODES
  rw [row_fin k _ (x 0).val (by rw [e0]; omega) h0]
  refine congrArg (cTile X k) (funext fun a => ?_)
  match a with
  | ⟨0, _⟩ => exact Fin.ext (by show (x 0).val = _ % 64; rw [e0]; omega)
  | ⟨1, _⟩ => exact Fin.ext e1.symm

theorem c_mem (X : Vec F S1536x1536 .bf16) (k : Fin k0_t1_loop.trips) (y : (S1536x1536).Idx) (hy : (y 0).val / 64 = k.val) : y ∈ (cPiece X k).1.set := by
  unfold cPiece
  refine (Rect.mem_set_unit (inb := off1_inb k)).mpr fun a => ?_
  match a with
  | ⟨0, _⟩ =>
    have e : k0_off1 k 0 = 64 * k.val := by rw [off1_eq]; rfl
    show k0_off1 k 0 ≤ (y 0).val ∧ (y 0).val < k0_off1 k 0 + 64
    omega
  | ⟨1, _⟩ =>
    have e : k0_off1 k 1 = 0 := by rw [off1_eq]; rfl
    have h1 : (y 1).val < 1536 := (y 1).isLt
    show k0_off1 k 1 ≤ (y 1).val ∧ (y 1).val < k0_off1 k 1 + 1536
    omega

theorem s_agree (X : Vec F S1536x1536 .bf16) (k : Fin k0_t1_loop.trips) (x) : (sPiece X k).2 x = SCALES X ((sPiece X k).1.emb x) := by
  have h0 : (x 0).val < 64 := (x 0).isLt
  have e0 : (((sPiece X k).1.emb x) 0).val = 64 * k.val + 1 * (x 0).val := by
    show k0_off2 k 0 + 1 * (x 0).val = _
    rw [off2_eq]; rfl
  have e1 : (((sPiece X k).1.emb x) 1).val = (x 1).val := by
    show k0_off2 k 1 + 1 * (x 1).val = _
    rw [off2_eq]; show 0 + 1 * (x 1).val = _; omega
  unfold SCALES
  rw [row_fin k _ (x 0).val (by rw [e0]; omega) h0]
  refine congrArg (sTile X k) (funext fun a => ?_)
  match a with
  | ⟨0, _⟩ => exact Fin.ext (by show (x 0).val = _ % 64; rw [e0]; omega)
  | ⟨1, _⟩ => exact Fin.ext e1.symm

theorem s_mem (X : Vec F S1536x1536 .bf16) (k : Fin k0_t1_loop.trips) (y : (S1536x1).Idx) (hy : (y 0).val / 64 = k.val) : y ∈ (sPiece X k).1.set := by
  unfold sPiece
  refine (Rect.mem_set_unit (inb := off2_inb k)).mpr fun a => ?_
  match a with
  | ⟨0, _⟩ =>
    have e : k0_off2 k 0 = 64 * k.val := by rw [off2_eq]; rfl
    show k0_off2 k 0 ≤ (y 0).val ∧ (y 0).val < k0_off2 k 0 + 64
    omega
  | ⟨1, _⟩ =>
    have e : k0_off2 k 1 = 0 := by rw [off2_eq]; rfl
    have h1 : (y 1).val < 1 := (y 1).isLt
    show k0_off2 k 1 ≤ (y 1).val ∧ (y 1).val < k0_off2 k 1 + 1
    omega

theorem xs_agree (X : Vec F S1536x1536 .bf16) (k : Fin k0_t1_loop.trips) (x) : (xsPiece X k).2 x = XSV X ((xsPiece X k).1.emb x) := by
  have h0 : (x 0).val < 64 := (x 0).isLt
  have e0 : (((xsPiece X k).1.emb x) 0).val = 64 * k.val + 1 * (x 0).val := by
    show k0_off3 k 0 + 1 * (x 0).val = _
    rw [off3_eq]; rfl
  have e1 : (((xsPiece X k).1.emb x) 1).val = (x 1).val := by
    show k0_off3 k 1 + 1 * (x 1).val = _
    rw [off3_eq]; show 0 + 1 * (x 1).val = _; omega
  unfold XSV
  rw [row_fin k _ (x 0).val (by rw [e0]; omega) h0]
  refine congrArg (xsTile X k) (funext fun a => ?_)
  match a with
  | ⟨0, _⟩ => exact Fin.ext (by show (x 0).val = _ % 64; rw [e0]; omega)
  | ⟨1, _⟩ => exact Fin.ext e1.symm

theorem xs_mem (X : Vec F S1536x1536 .bf16) (k : Fin k0_t1_loop.trips) (y : (S1536x128).Idx) (hy : (y 0).val / 64 = k.val) : y ∈ (xsPiece X k).1.set := by
  unfold xsPiece
  refine (Rect.mem_set_unit (inb := off3_inb k)).mpr fun a => ?_
  match a with
  | ⟨0, _⟩ =>
    have e : k0_off3 k 0 = 64 * k.val := by rw [off3_eq]; rfl
    show k0_off3 k 0 ≤ (y 0).val ∧ (y 0).val < k0_off3 k 0 + 64
    omega
  | ⟨1, _⟩ =>
    have e : k0_off3 k 1 = 0 := by rw [off3_eq]; rfl
    have h1 : (y 1).val < 128 := (y 1).isLt
    show k0_off3 k 1 ≤ (y 1).val ∧ (y 1).val < k0_off3 k 1 + 128
    omega

theorem xp_agree (X : Vec F S1536x1536 .bf16) (k : Fin k0_t1_loop.trips) : ∀ p ∈ xpList X k, ∀ x, p.2 x = XPV X (p.1.emb x) := by
  intro p hp
  unfold xpList at hp
  simp only [List.mem_flatMap, List.mem_map] at hp
  obtain ⟨r, -, kb, -, h, -, rfl⟩ := hp
  intro x
  have h0 : (x 0).val < 32 := (x 0).isLt
  have h1 : (x 1).val < 128 := (x 1).isLt
  have e0 : (((xpPiece X k r kb h).1.emb x) 0).val = 64 * k.val + 32 * r.val + 1 * (x 0).val := by
    show k0_off4 k (BitVec.ofNat 32 (32 * r.val)) 0 + 1 * (x 0).val = _
    rw [off4_row]
  have e1 : (((xpPiece X k r kb h).1.emb x) 1).val = 256 * kb.val + 128 * h.val + 1 * (x 1).val := rfl
  have hr := r.isLt
  have hh := h.isLt
  unfold XPV
  rw [row_fin k _ (32 * r.val + (x 0).val) (by rw [e0]; omega) (by omega)]
  have hr' : (⟨(((xpPiece X k r kb h).1.emb x) 0).val % 64 / 32, by omega⟩ : Fin 2) = r := Fin.ext (by show _ % 64 / 32 = _; rw [e0]; omega)
  have hk' : (⟨(((xpPiece X k r kb h).1.emb x) 1).val / 256, by rw [e1]; omega⟩ : Fin 6) = kb := Fin.ext (by show _ / 256 = _; rw [e1]; omega)
  have hh' : (⟨(((xpPiece X k r kb h).1.emb x) 1).val % 256 / 128, by omega⟩ : Fin 2) = h := Fin.ext (by show _ % 256 / 128 = _; rw [e1]; omega)
  rw [hr', hk', hh']
  refine congrArg (xpTileOf (cTile X k) r kb h) (funext fun a => ?_)
  match a with
  | ⟨0, _⟩ => exact Fin.ext (by show (x 0).val = _ % 32; rw [e0]; omega)
  | ⟨1, _⟩ => exact Fin.ext (by show (x 1).val = _ % 128; rw [e1]; omega)

theorem xp_mem (X : Vec F S1536x1536 .bf16) (k : Fin k0_t1_loop.trips) (y : S1536x1536.Idx) (hy : (y 0).val / 64 = k.val) : ∃ p ∈ xpList X k, y ∈ p.1.set := by
  have h1 : (y 1).val < 1536 := (y 1).isLt
  refine ⟨xpPiece X k ⟨(y 0).val % 64 / 32, by omega⟩ ⟨(y 1).val / 256, by omega⟩ ⟨(y 1).val % 256 / 128, by omega⟩, ?_, ?_⟩
  · unfold xpList
    simp only [List.mem_flatMap, List.mem_map]
    refine ⟨_, ?_, _, ?_, _, ?_, rfl⟩
    · generalize (⟨(y 0).val % 64 / 32, _⟩ : Fin 2) = c; revert c; decide
    · generalize (⟨(y 1).val / 256, _⟩ : Fin 6) = c; revert c; decide
    · generalize (⟨(y 1).val % 256 / 128, _⟩ : Fin 2) = c; revert c; decide
  · unfold xpPiece
    refine (Rect.mem_set_unit (inb := xpOff_inb k _ _ _)).mpr fun a => ?_
    match a with
    | ⟨0, _⟩ =>
      have e := off4_row k ⟨(y 0).val % 64 / 32, by omega⟩
      simp only at e
      show k0_off4 k (BitVec.ofNat 32 (32 * ((y 0).val % 64 / 32))) 0 ≤ (y 0).val ∧ (y 0).val < k0_off4 k (BitVec.ofNat 32 (32 * ((y 0).val % 64 / 32))) 0 + 32
      omega
    | ⟨1, _⟩ =>
      show 256 * ((y 1).val / 256) + 128 * ((y 1).val % 256 / 128) ≤ (y 1).val ∧ (y 1).val < 256 * ((y 1).val / 256) + 128 * ((y 1).val % 256 / 128) + 128
      omega

set_option maxHeartbeats 1000000 in
/-- The trips before `n`: every piece is a block of its buffer's value, and the rows below `64 n` are written. -/
theorem pb_pieces (𝒱 : Variants) (bd : Option 𝒱.V) (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (k0_h1 : k0_cond1 i = 1#1) (X : BufTy.Contents (Elt F) arg1.view.ty) (n : ℕ) (hn : n ≤ k0_t1_loop.trips) :
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).1, ∀ x, p.2 x = CODES (arg1.view.read (Elt F) X) (p.1.emb x)) ∧ (∀ y : S1536x1536.Idx, (y 0).val / 64 < n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).1, y ∈ p.1.set)) ∧
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).2.1, ∀ x, p.2 x = SCALES (arg1.view.read (Elt F) X) (p.1.emb x)) ∧ (∀ y : S1536x1.Idx, (y 0).val / 64 < n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).2.1, y ∈ p.1.set)) ∧
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).2.2.1, ∀ x, p.2 x = XPV (arg1.view.read (Elt F) X) (p.1.emb x)) ∧ (∀ y : S1536x1536.Idx, (y 0).val / 64 < n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).2.2.1, y ∈ p.1.set)) ∧
    ((∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).2.2.2, ∀ x, p.2 x = XSV (arg1.view.read (Elt F) X) (p.1.emb x)) ∧ (∀ y : S1536x128.Idx, (y 0).val / 64 < n → ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X n).2.2.2, y ∈ p.1.set)) := by
  induction n with
  | zero =>
    rw [pb_k0_t1.eq_1]
    simp
  | succ n ih =>
    obtain ⟨⟨a1, b1⟩, ⟨a2, b2⟩, ⟨a3, b3⟩, ⟨a4, b4⟩⟩ := ih (by omega)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X ⟨n, by omega⟩
    have ht := trip_eq (F := F) 𝒱 bd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X ⟨n, by omega⟩
    rw [ht] at hs
    simp only at hs
    rw [hs]
    simp only [List.mem_append, List.mem_singleton]
    refine ⟨⟨?_, ?_⟩, ⟨?_, ?_⟩, ⟨?_, ?_⟩, ⟨?_, ?_⟩⟩
    · rintro p (rfl | hp)
      · exact c_agree _ _
      · exact a1 p hp
    · intro y hy
      by_cases h : (y 0).val / 64 = n
      · exact ⟨_, Or.inl rfl, c_mem _ ⟨n, by omega⟩ y h⟩
      · obtain ⟨p, hp, hm⟩ := b1 y (by omega); exact ⟨p, Or.inr hp, hm⟩
    · rintro p (rfl | hp)
      · exact s_agree _ _
      · exact a2 p hp
    · intro y hy
      by_cases h : (y 0).val / 64 = n
      · exact ⟨_, Or.inl rfl, s_mem _ ⟨n, by omega⟩ y h⟩
      · obtain ⟨p, hp, hm⟩ := b2 y (by omega); exact ⟨p, Or.inr hp, hm⟩
    · rintro p (hp | hp)
      · exact xp_agree _ _ p hp
      · exact a3 p hp
    · intro y hy
      by_cases h : (y 0).val / 64 = n
      · obtain ⟨p, hp, hm⟩ := xp_mem (arg1.view.read (Elt F) X) ⟨n, by omega⟩ y h; exact ⟨p, Or.inl hp, hm⟩
      · obtain ⟨p, hp, hm⟩ := b3 y (by omega); exact ⟨p, Or.inr hp, hm⟩
    · rintro p (rfl | hp)
      · exact xs_agree _ _
      · exact a4 p hp
    · intro y hy
      by_cases h : (y 0).val / 64 = n
      · exact ⟨_, Or.inl rfl, xs_mem _ ⟨n, by omega⟩ y h⟩
      · obtain ⟨p, hp, hm⟩ := b4 y (by omega); exact ⟨p, Or.inr hp, hm⟩

/-- What the buffer reads after the loop. -/
theorem pb_codes (𝒱 : Variants) (bd : Option 𝒱.V) (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (k0_h1 : k0_cond1 i = 1#1) (X : BufTy.Contents (Elt F) arg1.view.ty) (f : BufTy.Contents (Elt F) arg15.view.ty) :
    arg15.view.read (Elt F) (arg15.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).1) = CODES (arg1.view.read (Elt F) X) := by
  have h := (pb_pieces (F := F) 𝒱 bd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips le_rfl).1
  have hc : ∀ y : (S1536x1536).Idx, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).1, y ∈ p.1.set := fun y => h.2 y (row_trip _ (y 0).isLt)
  rw [View.read_writes_eq_canon _ _ _ hc]
  exact funext fun y => View.canon_apply_of_pieces _ _ h.1 y (hc y)

/-- What the buffer reads after the loop. -/
theorem pb_scales (𝒱 : Variants) (bd : Option 𝒱.V) (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (k0_h1 : k0_cond1 i = 1#1) (X : BufTy.Contents (Elt F) arg1.view.ty) (f : BufTy.Contents (Elt F) arg16.view.ty) :
    arg16.view.read (Elt F) (arg16.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).2.1) = SCALES (arg1.view.read (Elt F) X) := by
  have h := (pb_pieces (F := F) 𝒱 bd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips le_rfl).2.1
  have hc : ∀ y : (S1536x1).Idx, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).2.1, y ∈ p.1.set := fun y => h.2 y (row_trip _ (y 0).isLt)
  rw [View.read_writes_eq_canon _ _ _ hc]
  exact funext fun y => View.canon_apply_of_pieces _ _ h.1 y (hc y)

/-- What the buffer reads after the loop. -/
theorem pb_xp (𝒱 : Variants) (bd : Option 𝒱.V) (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (k0_h1 : k0_cond1 i = 1#1) (X : BufTy.Contents (Elt F) arg1.view.ty) (f : BufTy.Contents (Elt F) arg17.view.ty) :
    arg17.view.read (Elt F) (arg17.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).2.2.1) = XPV (arg1.view.read (Elt F) X) := by
  have h := (pb_pieces (F := F) 𝒱 bd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips le_rfl).2.2.1
  have hc : ∀ y : (S1536x1536).Idx, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).2.2.1, y ∈ p.1.set := fun y => h.2 y (row_trip _ (y 0).isLt)
  rw [View.read_writes_eq_canon _ _ _ hc]
  exact funext fun y => View.canon_apply_of_pieces _ _ h.1 y (hc y)

/-- What the buffer reads after the loop. -/
theorem pb_xs (𝒱 : Variants) (bd : Option 𝒱.V) (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (k0_h1 : k0_cond1 i = 1#1) (X : BufTy.Contents (Elt F) arg1.view.ty) (f : BufTy.Contents (Elt F) arg18.view.ty) :
    arg18.view.read (Elt F) (arg18.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).2.2.2) = XSV (arg1.view.read (Elt F) X) := by
  have h := (pb_pieces (F := F) 𝒱 bd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips le_rfl).2.2.2
  have hc : ∀ y : (S1536x128).Idx, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X k0_t1_loop.trips).2.2.2, y ∈ p.1.set := fun y => h.2 y (row_trip _ (y 0).isLt)
  rw [View.read_writes_eq_canon _ _ _ hc]
  exact funext fun y => View.canon_apply_of_pieces _ _ h.1 y (hc y)

end Cert.KernelIdeal.Gen
-- ==== Proof.KOut.lean ====
/- What a point of the grid leaves in its buffers, as functions of the blocks it reads. -/
module

public import proofs.«01_k».proof.Proof.KListA
public import proofs.«01_k».proof.Proof.KListB
public import proofs.«01_k».proof.Proof.KLoop
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Cert.Sparse

variable {F : FTy → Type} [FloatOps F]

/-- The product block from the permuted codes, the scales along the lanes, the stored values, the positions and the column scales. -/
def Yof (XP : Vec F S1536x1536 .fp8e4m3) (XS : Vec F S1536x128 .f32) (V : Fin 10 → Vec F S768x128 .i8) (I : Vec F S48x1280 .i32) (WS : Vec F S1x1280 .f32) :
    Vec F S1536x1280 .bf16 :=
  YB XP XS (fun q => View.ld (Val := Elt F) (WD V I) (Rect.unit (s := S1536x1280) ![0, 256 * q.val] S1536x256.size (wdRead_inb q))) WS

theorem readCov_wd {sp : Space} (v : View sig .tc sp S1536x1280 .fp8e4m3) [∀ e, Nonempty (Elt F e)] (V : Fin 10 → Vec F S768x128 .i8) (I : Vec F S48x1280 .i32) (q : Fin 5) :
    v.readCov (wdList V I) (Rect.unit (s := S1536x1280) ![0, 256 * q.val] S1536x256.size (wdRead_inb q)).toLoadRect
      = View.ld (Val := Elt F) (WD V I) (Rect.unit (s := S1536x1280) ![0, 256 * q.val] S1536x256.size (wdRead_inb q)) := by
  rw [View.readCov_eq_canon', wdList_canon]

set_option maxHeartbeats 2000000 in
/-- The product block. -/
theorem outA_y (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) [∀ e, Nonempty (Elt F e)] :
    arg14.view.read (Elt F) (arg14.view.writes (Elt F) f14 (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.1) = Yof (XPV x0) (XSV x0) ![x1, x2, x3, x4, x5, x6, x7, x8, x9, x10] x11 x12 := by
  rw [runA_y, View.read_writes_eq_canon _ _ _ (yList_cover _ _ _ _), yList_canon]
  rw [pb_xp, pb_xs, harg1.read_unread]
  rw [harg12.read_unread, harg13.read_unread]
  rw [View.readAt_full (s := S768x128) arg2.view (harg2.unread x1), harg2.read_unread, View.readAt_full (s := S768x128) arg3.view (harg3.unread x2), harg3.read_unread, View.readAt_full (s := S768x128) arg4.view (harg4.unread x3), harg4.read_unread, View.readAt_full (s := S768x128) arg5.view (harg5.unread x4), harg5.read_unread, View.readAt_full (s := S768x128) arg6.view (harg6.unread x5), harg6.read_unread, View.readAt_full (s := S768x128) arg7.view (harg7.unread x6), harg7.read_unread, View.readAt_full (s := S768x128) arg8.view (harg8.unread x7), harg8.read_unread, View.readAt_full (s := S768x128) arg9.view (harg9.unread x8), harg9.read_unread, View.readAt_full (s := S768x128) arg10.view (harg10.unread x9), harg10.read_unread, View.readAt_full (s := S768x128) arg11.view (harg11.unread x10), harg11.read_unread]
  unfold Yof
  congr 1
  exact funext fun q => readCov_wd arg19.view _ x11 q

/-- What the loop leaves. -/
theorem outA_codes (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) [∀ e, Nonempty (Elt F e)] :
    arg15.view.read (Elt F) (arg15.view.writes (Elt F) f15 (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.2.1) = CODES x0 := by
  rw [runA_q, pb_codes, harg1.read_unread]

/-- What the loop leaves. -/
theorem outA_scales (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) [∀ e, Nonempty (Elt F e)] :
    arg16.view.read (Elt F) (arg16.view.writes (Elt F) f16 (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.2.2.1) = SCALES x0 := by
  rw [runA_q, pb_scales, harg1.read_unread]

/-- What the loop leaves. -/
theorem outA_xp (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) [∀ e, Nonempty (Elt F e)] :
    arg17.view.read (Elt F) (arg17.view.writes (Elt F) f17 (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.2.2.2.1) = XPV x0 := by
  rw [runA_q, pb_xp, harg1.read_unread]

/-- What the loop leaves. -/
theorem outA_xs (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) [∀ e, Nonempty (Elt F e)] :
    arg18.view.read (Elt F) (arg18.view.writes (Elt F) f18 (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 f14 f15 f16 f17 f18).1.2.2.2.2) = XSV x0 := by
  rw [runA_q, pb_xs, harg1.read_unread]

set_option maxHeartbeats 2000000 in
/-- The product block. -/
theorem outB_y (c : Dev nD) (i : grid0.Coords) (arg1 : Memref sig .tc .vmem S1536x1536 .bf16) (harg1 : arg1.IsWhole) (arg2 : Memref sig .tc .vmem S768x128 .i8) (harg2 : arg2.IsWhole) (arg3 : Memref sig .tc .vmem S768x128 .i8) (harg3 : arg3.IsWhole) (arg4 : Memref sig .tc .vmem S768x128 .i8) (harg4 : arg4.IsWhole) (arg5 : Memref sig .tc .vmem S768x128 .i8) (harg5 : arg5.IsWhole) (arg6 : Memref sig .tc .vmem S768x128 .i8) (harg6 : arg6.IsWhole) (arg7 : Memref sig .tc .vmem S768x128 .i8) (harg7 : arg7.IsWhole) (arg8 : Memref sig .tc .vmem S768x128 .i8) (harg8 : arg8.IsWhole) (arg9 : Memref sig .tc .vmem S768x128 .i8) (harg9 : arg9.IsWhole) (arg10 : Memref sig .tc .vmem S768x128 .i8) (harg10 : arg10.IsWhole) (arg11 : Memref sig .tc .vmem S768x128 .i8) (harg11 : arg11.IsWhole) (arg12 : Memref sig .tc .vmem S48x1280 .i32) (harg12 : arg12.IsWhole) (arg13 : Memref sig .tc .vmem S1x1280 .f32) (harg13 : arg13.IsWhole) (arg14 : Memref sig .tc .vmem S1536x1280 .bf16) (harg14 : arg14.IsWhole) (arg15 : Memref sig .tc .vmem S1536x1536 .fp8e4m3) (harg15 : arg15.IsWhole) (arg16 : Memref sig .tc .vmem S1536x1 .f32) (harg16 : arg16.IsWhole) (arg17 : Memref sig .tc .vmem S1536x1536 .fp8e4m3) (harg17 : arg17.IsWhole) (arg18 : Memref sig .tc .vmem S1536x128 .f32) (harg18 : arg18.IsWhole) (arg19 : Memref sig .tc .vmem S1536x1280 .fp8e4m3) (harg19 : arg19.IsWhole) (hc0 : ¬cond0_0 i) (x0 : Vec F S1536x1536 .bf16) (x1 : Vec F S768x128 .i8) (x2 : Vec F S768x128 .i8) (x3 : Vec F S768x128 .i8) (x4 : Vec F S768x128 .i8) (x5 : Vec F S768x128 .i8) (x6 : Vec F S768x128 .i8) (x7 : Vec F S768x128 .i8) (x8 : Vec F S768x128 .i8) (x9 : Vec F S768x128 .i8) (x10 : Vec F S768x128 .i8) (x11 : Vec F S48x1280 .i32) (x12 : Vec F S1x1280 .f32) (xp : Vec F S1536x1536 .fp8e4m3) (xs : Vec F S1536x128 .f32) (f14 : BufTy.Contents (Elt F) arg14.view.ty) [∀ e, Nonempty (Elt F e)] :
    arg14.view.read (Elt F) (arg14.view.writes (Elt F) f14 (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xp xs f14).1) = Yof xp xs ![x1, x2, x3, x4, x5, x6, x7, x8, x9, x10] x11 x12 := by
  rw [runB_y, View.read_writes_eq_canon _ _ _ (yList_cover _ _ _ _), yList_canon]
  rw [harg17.read_unread, harg18.read_unread]
  rw [harg12.read_unread, harg13.read_unread]
  rw [View.readAt_full (s := S768x128) arg2.view (harg2.unread x1), harg2.read_unread, View.readAt_full (s := S768x128) arg3.view (harg3.unread x2), harg3.read_unread, View.readAt_full (s := S768x128) arg4.view (harg4.unread x3), harg4.read_unread, View.readAt_full (s := S768x128) arg5.view (harg5.unread x4), harg5.read_unread, View.readAt_full (s := S768x128) arg6.view (harg6.unread x5), harg6.read_unread, View.readAt_full (s := S768x128) arg7.view (harg7.unread x6), harg7.read_unread, View.readAt_full (s := S768x128) arg8.view (harg8.unread x7), harg8.read_unread, View.readAt_full (s := S768x128) arg9.view (harg9.unread x8), harg9.read_unread, View.readAt_full (s := S768x128) arg10.view (harg10.unread x9), harg10.read_unread, View.readAt_full (s := S768x128) arg11.view (harg11.unread x10), harg11.read_unread]
  unfold Yof
  congr 1
  exact funext fun q => readCov_wd arg19.view _ x11 q

end Cert.KernelIdeal.Gen
-- ==== Proof.KPerm.lean ====
/-
  The permuted codes and the dense weight read at an index: which stored entry each one is.
-/
module

public import proofs.«01_k».proof.Proof.KLoop
public import Idealize.ShloMosaic.Lib.Pointwise
public import Idealize.ShloMosaic.PureOps.Ideal

@[expose] public section

noncomputable section

namespace Cert.Sparse

open Idealize.ShloMosaic Cert.KernelIdeal Cert.KernelIdeal.Gen

/-- The dense row that stands at row `n` of the permuted order. -/
def perm (n : Fin 1536) : Fin 1536 :=
  ⟨256 * (n.val / 256) + 32 * (n.val % 32 / 4) + 4 * (n.val % 256 / 32) + n.val % 4, by omega⟩

theorem halfOf_apply (C : Vec Ideal S64x1536 .fp8e4m3) (r : Fin 2) (kb : Fin 6) (h : Fin 2) (j : Fin 32) (l : Fin 128) :
    halfOf C r kb h (ix2 j l) = C (ix2 (⟨32 * r.val + j.val, by omega⟩ : Fin 64) (⟨256 * kb.val + 128 * h.val + l.val, by omega⟩ : Fin 1536)) := by
  unfold halfOf
  split
  · rename_i he
    show C _ = C _
    congr 1
    funext c
    match c with
    | ⟨0, _⟩ => exact Fin.ext rfl
    | ⟨1, _⟩ => exact Fin.ext (by show 1408 + l.val = 256 * kb.val + 128 * h.val + l.val; omega)
  · show C _ = C _
    congr 1
    funext c
    match c with
    | ⟨0, _⟩ => exact Fin.ext (by show 32 * r.val + (0 + j.val) = 32 * r.val + j.val; omega)
    | ⟨1, _⟩ => exact Fin.ext (by show 256 * kb.val + 128 * h.val + (0 + l.val) = 256 * kb.val + 128 * h.val + l.val; omega)

/-- The word of one lane. -/
def laneW (h : Fin 2) (l : Fin 128) : BitVec 32 :=
  let a := IntOp.addi (BitVec.ofNat 32 (128 * h.val)) (BitVec.ofNat 32 l.val)
  IntOp.addi (IntOp.addi (IntOp.muli 32#32 (IntOp.andi (IntOp.shrsi .vector a 2#32) 7#32)) (IntOp.muli 4#32 (IntOp.shrsi .vector a 5#32))) (IntOp.andi a 3#32)

theorem permW_apply (h : Fin 2) (j : Fin 32) (l : Fin 128) : permW h (ix2 j l) = laneW h l := by
  have e : iota .tc S32x128 32 [1] iota_S32x128_d1_w32 (ix2 j l) = BitVec.ofNat 32 l.val := by
    simp [iota, ix2]
  show IntOp.addi (IntOp.addi (IntOp.muli 32#32 (IntOp.andi (IntOp.shrsi .vector (IntOp.addi _ (iota .tc S32x128 32 [1] iota_S32x128_d1_w32 (ix2 j l))) 2#32) 7#32)) (IntOp.muli 4#32 (IntOp.shrsi .vector (IntOp.addi _ (iota .tc S32x128 32 [1] iota_S32x128_d1_w32 (ix2 j l))) 5#32))) (IntOp.andi (IntOp.addi _ (iota .tc S32x128 32 [1] iota_S32x128_d1_w32 (ix2 j l))) 3#32) = _
  rw [e]
  rfl

set_option maxRecDepth 100000 in
theorem laneW_eq (h : Fin 2) (l : Fin 128) : (laneW h l).toNat = 32 * ((128 * h.val + l.val) % 32 / 4) + 4 * ((128 * h.val + l.val) / 32) + l.val % 4 := by
  revert h l; decide +kernel

/-- The lane guard and the lane of the gather. -/
theorem lane_guard : ∀ n : Fin 256, IntOp.cmpi .sge (BitVec.ofNat 32 n.val) 128#32 = (if n.val ≥ 128 then 1#1 else 0#1)
    ∧ Scalar.select (IntOp.cmpi .slt (IntOp.andi (BitVec.ofNat 32 n.val) 127#32) 0#32) (IntOp.addi (IntOp.andi (BitVec.ofNat 32 n.val) 127#32) 128#32) (IntOp.andi (BitVec.ofNat 32 n.val) 127#32) = BitVec.ofNat 32 (n.val % 128) := by
  decide +kernel

theorem pay13_apply (g0 g1 : FVec Ideal S32x128 .f32) (w : IVec S32x128 32) (j : Fin 32) (l : Fin 128) (n : Fin 256) (hw : w (ix2 j l) = BitVec.ofNat 32 n.val) :
    k0_pay13 g0 g1 w (ix2 j l) = if n.val ≥ 128 then g1 (ix2 j ⟨n.val % 128, by omega⟩) else g0 (ix2 j ⟨n.val % 128, by omega⟩) := by
  unfold k0_pay13
  rw [shapeCast_self]
  have hlane : ∀ g : FVec Ideal S32x128 .f32, ∀ q : IVec S32x128 32, q (ix2 j l) = BitVec.ofNat 32 (n.val % 128) →
      dynamicGather 1 g q (ix2 j l) = g (ix2 j ⟨n.val % 128, by omega⟩) := by
    intro g q hq
    rw [dynamicGather_apply]
    congr 1
    funext b
    match b with
    | ⟨0, _⟩ => rfl
    | ⟨1, _⟩ =>
      refine Fin.ext ?_
      show (q (ix2 j l)).toNat % 128 = n.val % 128
      rw [hq, BitVec.toNat_ofNat]
      omega
  show (if IntOp.cmpi .sge (w (ix2 j l)) 128#32 = 1#1 then dynamicGather 1 g1 _ (ix2 j l) else dynamicGather 1 g0 _ (ix2 j l)) = _
  have hq : ∀ (h1 : S32x128.ShapeCasts S32x128x1) (h2 : S32x128x1.ShapeCasts S32x128),
      shapeCast S32x128 (shapeCast S32x128x1 (select (cmpi .slt (andi w (broadcast S32x128 127#32)) (broadcast S32x128 0#32)) (addi (andi w (broadcast S32x128 127#32)) (broadcast S32x128 128#32)) (andi w (broadcast S32x128 127#32))) h1) h2 (ix2 j l) = BitVec.ofNat 32 (n.val % 128) := by
    intro h1 h2
    rw [shapeCast_apply _ h2 (ix2 j l) (ix3 j l (0 : Fin 1)) (by
      rw [Shape.rowMajor_val_three, Shape.rowMajor_val_two]; simp [ix2, ix3]),
      shapeCast_apply _ h1 (ix3 j l (0 : Fin 1)) (ix2 j l) (by
      rw [Shape.rowMajor_val_three, Shape.rowMajor_val_two]; simp [ix2, ix3])]
    rw [← (lane_guard n).2, ← hw]
    rfl
  rw [hlane g1 _ (hq _ _), hlane g0 _ (hq _ _), hw, (lane_guard n).1]
  by_cases h : n.val ≥ 128
  · simp [h]
  · simp [h]

theorem xpTileOf_apply (C : Vec Ideal S64x1536 .fp8e4m3) (r : Fin 2) (kb : Fin 6) (h : Fin 2) (j : Fin 32) (l : Fin 128) (m : Fin 1536)
    (hm : m.val = 256 * kb.val + 32 * ((128 * h.val + l.val) % 32 / 4) + 4 * ((128 * h.val + l.val) / 32) + l.val % 4) :
    xpTileOf C r kb h (ix2 j l) = C (ix2 (⟨32 * r.val + j.val, by omega⟩ : Fin 64) m) := by
  have hl := laneW_eq h l
  have hlt : (laneW h l).toNat < 256 := by rw [hl]; omega
  unfold xpTileOf
  rw [pay13_apply _ _ _ j l ⟨(laneW h l).toNat, hlt⟩ (by rw [permW_apply]; simp)]
  split
  · rename_i hge
    rw [halfOf_apply]
    congr 2
    exact Fin.ext (by show 256 * kb.val + 128 * 1 + (laneW h l).toNat % 128 = m.val; simp only at hge; omega)
  · rename_i hge
    rw [halfOf_apply]
    congr 2
    exact Fin.ext (by show 256 * kb.val + 128 * 0 + (laneW h l).toNat % 128 = m.val; simp only at hge; omega)

/-- The permuted codes are the codes at the permuted column. -/
theorem xpv_apply (X : Vec Ideal S1536x1536 .bf16) (r n : Fin 1536) : XPV X (ix2 r n) = CODES X (ix2 r (perm n)) := by
  show xpTileOf (cTile X ⟨r.val / 64, row_trip _ r.isLt⟩) ⟨r.val % 64 / 32, by omega⟩ ⟨n.val / 256, by omega⟩ ⟨n.val % 256 / 128, by omega⟩
    (ix2 ⟨r.val % 32, by omega⟩ ⟨n.val % 128, by omega⟩) = cTile X ⟨r.val / 64, row_trip _ r.isLt⟩ (ix2 (⟨r.val % 64, by omega⟩ : Fin 64) (perm n))
  rw [xpTileOf_apply (cTile X ⟨r.val / 64, row_trip _ r.isLt⟩) ⟨r.val % 64 / 32, by omega⟩ ⟨n.val / 256, by omega⟩ ⟨n.val % 256 / 128, by omega⟩
    ⟨r.val % 32, by omega⟩ ⟨n.val % 128, by omega⟩ (perm n) (by simp only [perm]; omega)]
  congr 2
  exact Fin.ext (by show 32 * (r.val % 64 / 32) + r.val % 32 = r.val % 64; omega)

end Cert.Sparse
-- ==== Proof.KWeight.lean ====
/-
  The dense weight and the product block read at an index.
-/
module

public import proofs.«01_k».proof.Proof.KOut
public import proofs.«01_k».proof.Proof.KPerm
public import Idealize.ShloMosaic.Lib.MatmulPlain

@[expose] public section

noncomputable section

namespace Cert.Sparse

open Idealize.ShloMosaic Cert.KernelIdeal Cert.KernelIdeal.Gen

/-- The entry of the dense weight at place `p` of a group of four: the stored byte whose position is `p`, decoded, zero where
    neither position is. The positions are the two-bit fields `2 d` and `2 d + 1` of the word. -/
def dec (w : BitVec 32) (b0 b1 : BitVec 8) (d p : ℕ) : EReal :=
  Ideal.ofBits .fp8e4m3 (if pos w (4 * d) = BitVec.ofNat 32 p then b0 else if pos w (4 * d + 2) = BitVec.ofNat 32 p then b1 else 0#8)

theorem wd_apply (V : Fin 10 → Vec Ideal S768x128 .i8) (I : Vec Ideal S48x1280 .i32) (k : Fin 1536) (c : Fin 1280)
    (hne : pos (I (ix2 (⟨(perm k).val / 32, by omega⟩ : Fin 48) c)) (4 * ((perm k).val % 32 / 4)) ≠ pos (I (ix2 (⟨(perm k).val / 32, by omega⟩ : Fin 48) c)) (4 * ((perm k).val % 32 / 4) + 2)) :
    WD V I (ix2 k c) = dec (I (ix2 (⟨(perm k).val / 32, by omega⟩ : Fin 48) c))
      (V ⟨c.val / 128, by omega⟩ (ix2 (⟨2 * ((perm k).val / 4), by omega⟩ : Fin 768) (⟨c.val % 128, by omega⟩ : Fin 128)))
      (V ⟨c.val / 128, by omega⟩ (ix2 (⟨2 * ((perm k).val / 4) + 1, by omega⟩ : Fin 768) (⟨c.val % 128, by omega⟩ : Fin 128)))
      ((perm k).val % 32 / 4) ((perm k).val % 4) := by
  have hI : View.ld (Val := Elt Ideal) I (Rect.unit ![8 * (k.val / 256), 128 * (c.val / 128)] S8x128.size (idxRect_inb ⟨c.val / 128, by omega⟩ ⟨k.val / 256, by omega⟩))
      (ix2 (⟨k.val % 32 / 4, by omega⟩ : Fin 8) (⟨c.val % 128, by omega⟩ : Fin 128)) = I (ix2 (⟨(perm k).val / 32, by omega⟩ : Fin 48) c) := by
    unfold View.ld
    congr 1
    funext b
    match b with
    | ⟨0, _⟩ => exact Fin.ext (by show 8 * (k.val / 256) + 1 * (k.val % 32 / 4) = (perm k).val / 32; simp only [perm]; omega)
    | ⟨1, _⟩ => exact Fin.ext (by show 128 * (c.val / 128) + 1 * (c.val % 128) = c.val; omega)
  have hd : (perm k).val % 32 / 4 = k.val % 256 / 32 := by simp only [perm]; omega
  have hp : (perm k).val % 4 = k.val % 4 := by simp only [perm]; omega
  rw [hd] at hne ⊢
  rw [hp]
  refine (tile_apply (F := Ideal) (V ⟨c.val / 128, by omega⟩) (View.ld (Val := Elt Ideal) I (Rect.unit ![8 * (k.val / 256), 128 * (c.val / 128)] S8x128.size (idxRect_inb ⟨c.val / 128, by omega⟩ ⟨k.val / 256, by omega⟩)))
    (k.val / 256) (k.val % 256 / 32 / 2) (k.val % 256 / 32) (k.val % 256 / 32 % 2) _ _ _ _ _ _ _ _ _ _ _ _ _ (by omega) (by omega) (by omega) (by omega) rfl rfl rfl rfl rfl rfl
    ⟨k.val % 32, by omega⟩ ⟨c.val % 128, by omega⟩ ⟨k.val % 32 / 4, by omega⟩ (k.val % 4) (by omega) (by show k.val % 32 = 4 * (k.val % 32 / 4) + k.val % 4; omega)
    ⟨2 * ((perm k).val / 4), by omega⟩ ⟨2 * ((perm k).val / 4) + 1, by omega⟩ (by simp only [perm]; omega) (by simp only [perm]; omega) ?_).trans ?_
  · exact fun h => hne (by rw [← hI]; exact h)
  · rw [← hI]; rfl

/-- One entry of a product tile. -/
theorem pay2_apply (a : Vec Ideal S512x1536 .fp8e4m3) (b : Vec Ideal S1536x256 .fp8e4m3) (xs : Vec Ideal S512x128 .f32) (ws : Vec Ideal S1x256 .f32)
    (r : Fin 512) (c : Fin 256) (σ : EReal) (hσ : ∀ l : Fin 128, xs (ix2 r l) = σ) :
    k0_pay2 (F := Ideal) a b xs ws (ix2 r c) = (Ideal.ofBits .f32 0x00000000#32 + ∑ k : Fin 1536, a (ix2 r k) * b (ix2 k c)) * σ * ws (ix2 (0 : Fin 1) c) := by
  have hm : matmul (F := Ideal) (φ₁ := .fp8e4m3) (φ₂ := .fp8e4m3) dot_S512x1536_S1536x256_S512x256_1_0_0_1_n_n none a b (constant S512x256 .f32 0x00000000#32) (ix2 r c)
      = Ideal.ofBits .f32 0x00000000#32 + ∑ k : Fin 1536, a (ix2 r k) * b (ix2 k c) :=
    Ideal.matmul_plain_apply (M := 512) (K := 1536) (N := 256) (φ₁ := .fp8e4m3) (φ₂ := .fp8e4m3) none a b (constant S512x256 .f32 0x00000000#32) r c
  have hc : concatenate S512x256 1 [⟨S512x128, xs⟩, ⟨S512x128, xs⟩] concatenates_S512x128_S512x128_S512x256_d1 (ix2 r c) = σ := by
    by_cases h : c.val < 128
    · rw [concatenate_pair_apply_left 1 xs xs concatenates_S512x128_S512x128_S512x256_d1 (ix2 r c) rfl (ix2 r ⟨c.val, h⟩) (by
        intro b
        match b with
        | ⟨0, _⟩ => rfl
        | ⟨1, _⟩ => rfl)]
      exact hσ _
    · rw [concatenate_pair_apply_right 1 xs xs concatenates_S512x128_S512x128_S512x256_d1 (ix2 r c) rfl rfl (ix2 r ⟨c.val - 128, by omega⟩) (by
        intro b hb
        match b with
        | ⟨0, _⟩ => rfl
        | ⟨1, _⟩ => exact absurd rfl hb) (by show c.val - 128 + 128 = c.val; omega)]
      exact hσ _
  have hw : broadcastTo S512x256 (shapeCast S1x256 ws shapeCasts_S1x256_S1x256) broadcasts_S1x256_S512x256 (ix2 r c) = ws (ix2 (0 : Fin 1) c) := by
    have hne : ¬ (256 : ℕ) = 1 := by decide
    rw [shapeCast_self]
    simp only [pointwise, hne, dite_false]
    rfl
  unfold k0_pay2
  show (matmul (F := Ideal) (φ₁ := .fp8e4m3) (φ₂ := .fp8e4m3) _ none a b (constant S512x256 .f32 0x00000000#32) (ix2 r c)) * (concatenate S512x256 1 _ _ (ix2 r c)) * (broadcastTo S512x256 _ _ (ix2 r c)) = _
  rw [hm, hc, hw]

/-- One entry of the product block. -/
theorem yof_apply (XP : Vec Ideal S1536x1536 .fp8e4m3) (XS : Vec Ideal S1536x128 .f32) (V : Fin 10 → Vec Ideal S768x128 .i8) (I : Vec Ideal S48x1280 .i32) (WS : Vec Ideal S1x1280 .f32)
    (r : Fin 1536) (c : Fin 1280) (σ : EReal) (hσ : ∀ l : Fin 128, XS (ix2 r l) = σ) :
    Yof XP XS V I WS (ix2 r c) = (Ideal.ofBits .f32 0x00000000#32 + ∑ k : Fin 1536, XP (ix2 r k) * WD V I (ix2 k c)) * σ * WS (ix2 (0 : Fin 1) c) := by
  have hr : ∀ n : Fin 1536, View.ld (Val := Elt Ideal) XP (Rect.unit ![512 * (r.val / 512), 0] S512x1536.size (xpRect_inb ⟨r.val / 512, by omega⟩)) (ix2 (⟨r.val % 512, by omega⟩ : Fin 512) n) = XP (ix2 r n) := by
    intro n
    unfold View.ld
    congr 1
    funext b
    match b with
    | ⟨0, _⟩ => exact Fin.ext (by show 512 * (r.val / 512) + 1 * (r.val % 512) = r.val; omega)
    | ⟨1, _⟩ => exact Fin.ext (by show 0 + 1 * n.val = n.val; omega)
  have hs : ∀ l : Fin 128, View.ld (Val := Elt Ideal) XS (Rect.unit ![512 * (r.val / 512), 0] S512x128.size (xsRect_inb ⟨r.val / 512, by omega⟩)) (ix2 (⟨r.val % 512, by omega⟩ : Fin 512) l) = σ := by
    intro l
    rw [← hσ l]
    unfold View.ld
    congr 1
    funext b
    match b with
    | ⟨0, _⟩ => exact Fin.ext (by show 512 * (r.val / 512) + 1 * (r.val % 512) = r.val; omega)
    | ⟨1, _⟩ => exact Fin.ext (by show 0 + 1 * l.val = l.val; omega)
  have hc : ∀ k : Fin 1536, View.ld (Val := Elt Ideal) (WD V I) (Rect.unit (s := S1536x1280) ![0, 256 * (c.val / 256)] S1536x256.size (wdRead_inb ⟨c.val / 256, by omega⟩)) (ix2 k (⟨c.val % 256, by omega⟩ : Fin 256)) = WD V I (ix2 k c) := by
    intro k
    show WD V I _ = _
    congr 1
    funext b
    match b with
    | ⟨0, _⟩ => exact Fin.ext (by show 0 + 1 * k.val = k.val; omega)
    | ⟨1, _⟩ => exact Fin.ext (by show 256 * (c.val / 256) + 1 * (c.val % 256) = c.val; omega)
  have hw : View.ld (Val := Elt Ideal) WS (Rect.unit ![0, 256 * (c.val / 256)] S1x256.size (wsRect_inb ⟨c.val / 256, by omega⟩)) (ix2 (0 : Fin 1) (⟨c.val % 256, by omega⟩ : Fin 256)) = WS (ix2 (0 : Fin 1) c) := by
    unfold View.ld
    congr 1
    funext b
    match b with
    | ⟨0, _⟩ => exact Fin.ext (by show 0 + 1 * 0 = 0; omega)
    | ⟨1, _⟩ => exact Fin.ext (by show 256 * (c.val / 256) + 1 * (c.val % 256) = c.val; omega)
  have main := pay2_apply (View.ld (Val := Elt Ideal) XP (Rect.unit ![512 * (r.val / 512), 0] S512x1536.size (xpRect_inb ⟨r.val / 512, by omega⟩)))
    (View.ld (Val := Elt Ideal) (WD V I) (Rect.unit (s := S1536x1280) ![0, 256 * (c.val / 256)] S1536x256.size (wdRead_inb ⟨c.val / 256, by omega⟩)))
    (View.ld (Val := Elt Ideal) XS (Rect.unit ![512 * (r.val / 512), 0] S512x128.size (xsRect_inb ⟨r.val / 512, by omega⟩)))
    (View.ld (Val := Elt Ideal) WS (Rect.unit ![0, 256 * (c.val / 256)] S1x256.size (wsRect_inb ⟨c.val / 256, by omega⟩)))
    ⟨r.val % 512, by omega⟩ ⟨c.val % 256, by omega⟩ σ hs
  simp only [hr, hc, hw] at main
  exact main

end Cert.Sparse
-- ==== Proof.KRefDec.lean ====
/-
  The reference's product, read at an index: its dense weight is the decoded entry at each row and column.
-/
module

public import proofs.«01_k».proof.Proof.KWeight
public import proofs.«01_k».proof.Proof.Gen.ReferenceIdeal.Frame

@[expose] public section

noncomputable section

namespace Cert.Sparse

open Idealize.ShloMosaic Cert.ReferenceIdeal Cert.ReferenceIdeal.Gen

theorem iota_mid {a b d : ℕ} (x : Fin a) (y : Fin b) (z : Fin d) :
    List.foldl (fun n e => n * (![a, b, d] : Fin 3 → ℕ) e + ((ix3 x y z : (⟨3, ![a, b, d]⟩ : Shape).Idx) e).val) 0 [1] = y.val := by
  simp [ix3]

/-- An arithmetic shift right keeps the two bits at the bottom when at most thirty places are dropped. -/
theorem shrsi_pos (w : BitVec 32) (k : ℕ) (hk : k ≤ 30) : IntOp.andi (IntOp.shrsi .vector w (BitVec.ofNat 32 k)) 3#32 = pos w k := by
  have e : (BitVec.ofNat 32 k).toNat = k := by simp; omega
  have hs : IntOp.shrsi .vector w (BitVec.ofNat 32 k) = w.sshiftRight k := by
    unfold IntOp.shrsi
    rw [if_pos (by omega)]
    show w.sshiftRight (BitVec.ofNat 32 k).toNat = _
    rw [e]
  rw [hs]
  unfold pos
  show w.sshiftRight k &&& 3#32 = _
  apply BitVec.eq_of_getLsbD_eq
  intro i hi
  have h3 : (3#32 : BitVec 32).getLsbD i = decide (i < 2) := by
    have : i < 32 := hi
    interval_cases i <;> rfl
  simp only [BitVec.getLsbD_and, h3, BitVec.getLsbD_sshiftRight, BitVec.getLsbD_ushiftRight]
  by_cases h : i < 2
  · simp [h, show k + i < 32 by omega, show i < 32 by omega, show ¬ 32 ≤ i by omega]
  · simp [h]

theorem fp8_zero : Ideal.ofBits .fp8e4m3 0#8 = 0 := by
  simp [Ideal.ofBits, Ideal.e4m3fn]

theorem four_mul (d : ℕ) (hd : d < 8) : IntOp.muli 4#32 (BitVec.ofNat 32 d) = BitVec.ofNat 32 (4 * d) := by
  interval_cases d <;> decide
theorem four_mul_add (d : ℕ) (hd : d < 8) : IntOp.addi (IntOp.muli 4#32 (BitVec.ofNat 32 d)) 2#32 = BitVec.ofNat 32 (4 * d + 2) := by
  interval_cases d <;> decide

theorem sel_dec (w : BitVec 32) (b0 b1 : BitVec 8) (d p : ℕ) (hd : d < 8) :
    Scalar.select (IntOp.cmpi .eq (IntOp.andi (IntOp.shrsi .vector w (IntOp.muli 4#32 (BitVec.ofNat 32 d))) 3#32) (BitVec.ofNat 32 p)) (Ideal.ofBits .fp8e4m3 b0)
      (Scalar.select (IntOp.cmpi .eq (IntOp.andi (IntOp.shrsi .vector w (IntOp.addi (IntOp.muli 4#32 (BitVec.ofNat 32 d)) 2#32)) 3#32) (BitVec.ofNat 32 p)) (Ideal.ofBits .fp8e4m3 b1) (0 : EReal))
    = dec w b0 b1 d p := by
  rw [four_mul_add d hd, four_mul d hd, shrsi_pos _ _ (by omega), shrsi_pos _ _ (by omega)]
  have hc : ∀ x y : BitVec 32, IntOp.cmpi .eq x y = if x = y then 1#1 else 0#1 := by
    intro x y
    by_cases h : x = y
    · simp [IntOp.cmpi, h]
    · rw [if_neg h]; show BitVec.ofBool (x == y) = 0#1; rw [beq_false_of_ne h]; rfl
  unfold dec
  rw [hc, hc]
  by_cases h0 : pos w (4 * d) = BitVec.ofNat 32 p
  · rw [if_pos h0, if_pos h0]; rfl
  · rw [if_neg h0, if_neg h0]
    by_cases h1 : pos w (4 * d + 2) = BitVec.ofNat 32 p
    · rw [if_pos h1, if_pos h1]; rfl
    · rw [if_neg h1, if_neg h1, fp8_zero]; rfl

theorem refpay1_apply (s : FVec Ideal S1536x1 .f32) (C : FVec Ideal S1536x1536 .fp8e4m3) (I : Vec Ideal S48x8960 .i32) (W : Vec Ideal S768x8960 .i8) (WS : Vec Ideal S1x8960 .f32) (r : Fin 1536) (c : Fin 8960) :
    k0_pay1 (F := Ideal) s C (k0_pay6 (F := Ideal) I) W WS (ix2 r c) = (0 + ∑ k : Fin 1536, C (ix2 r k) *
      dec (I (ix2 (⟨k.val / 32, by omega⟩ : Fin 48) c)) (W (ix2 (⟨2 * (k.val / 4), by omega⟩ : Fin 768) c)) (W (ix2 (⟨2 * (k.val / 4) + 1, by omega⟩ : Fin 768) c)) (k.val % 32 / 4) (k.val % 4))
      * s (ix2 r (0 : Fin 1)) * WS (ix2 (0 : Fin 1) c) := by
  have hne : ¬ (1536 : ℕ) = 1 := by decide
  have hne2 : ¬ (8960 : ℕ) = 1 := by decide
  have hne3 : ¬ (384 : ℕ) = 1 := by decide
  have hne4 : ¬ (48 : ℕ) = 1 := by decide
  unfold k0_pay1 k0_pay6
  simp only [pointwise]
  simp only [iota_mid, hne, hne2, hne3, hne4, dite_false, dite_true]
  refine congrArg₂ (· * ·) (congrArg₂ (· * ·) (congrArg (0 + ·) (Finset.sum_congr rfl fun k _ => congrArg (C (ix2 r k) * ·) ?_)) ?_) ?_
  · have hd : k.val / 4 % 8 = k.val % 32 / 4 := by omega
    refine (sel_dec _ _ _ _ _ (lt_of_eq_of_lt (iota_mid (a := 48) (b := 8) (d := 8960) _ _ _) (by show k.val / 4 % 8 < 8; omega))).trans ?_
    congr 1
    · congr 2
      exact Fin.ext (by show k.val / 4 / 8 = k.val / 32; omega)
    · congr 2
      · exact Fin.ext (by show (0 + k.val / 4) * 2 + 0 = 2 * (k.val / 4); omega)
      · exact Fin.ext (by show 0 + c.val = c.val; omega)
    · congr 2
      · exact Fin.ext (by show (0 + k.val / 4) * 2 + 1 = 2 * (k.val / 4) + 1; omega)
      · exact Fin.ext (by show 0 + c.val = c.val; omega)
    · exact (iota_mid (a := 48) (b := 8) (d := 8960) _ _ _).trans hd
  · rfl
  · rfl
end Cert.Sparse
-- ==== Proof.KPre.lean ====
/-
  What the precondition says of the arguments: every activation lies in the finite range, and the two positions of a pair differ.
-/
module

public import proofs.«01_k».proof.Pre_kept_apart
public import proofs.«01_k».proof.Proof.KRefDec
public import Idealize.ShloMosaic.Lib.ReduceAll
public import Idealize.ShloMosaic.Lib.Pointwise

@[expose] public section

noncomputable section

namespace Cert.Sparse

open Idealize.ShloMosaic Cert.Pre_kept_apart

variable [Cert.Pre_kept_apart.Facts]

instance : Subsingleton S_.Idx := ⟨fun a b => funext fun i => i.elim0⟩

theorem shrsi_host (w k : BitVec 32) (hk : k.toNat < 32) : IntOp.shrsi .host w k = IntOp.shrsi .vector w k := by
  unfold IntOp.shrsi
  rw [if_pos hk, if_pos hk]

theorem pre_split (X : FVec Ideal S3x512x1536 .bf16) (W : IVec S768x8960 8) (I : IVec S48x8960 32) (S : FVec Ideal S8960 .f32)
    (h : fn (F := Ideal) X W I S = fun _ => 1#1) :
    (∀ i : S3x512x1536.Idx, max (X i) (-(X i)) ≤ Ideal.ofBits .f32 0x7F7F0000#32)
    ∧ ∀ (d : Fin 8) (s : Fin 48) (c : Fin 8960), pos (I (ix2 s c)) (4 * d.val) ≠ pos (I (ix2 s c)) (4 * d.val + 2) := by
  have h0 := congrFun h (fun i => i.elim0)
  unfold fn fn_part1 at h0
  obtain ⟨ha, hb⟩ := IntOp.andi_eq_one.1 h0
  constructor
  · intro i
    have h1 := Host.reduce_andi_all _ _ _ _ _ ha i
    have h2 : BitVec.ofBool (decide (max (X i) (-(X i)) ≤ Ideal.ofBits .f32 0x7F7F0000#32)) = 1#1 := h1
    by_contra hn
    rw [decide_eq_false hn] at h2
    exact absurd h2 (by decide)
  · intro d s c
    have h1 := IntOp.cmpi_ne.1 (Host.reduce_andi_all _ _ _ _ _ hb (ix3 d s c))
    have h2 : IntOp.andi (IntOp.shrsi .host (I (ix2 s c)) (IntOp.muli 4#32 (BitVec.ofNat 32 d.val))) 3#32
        ≠ IntOp.andi (IntOp.shrsi .host (I (ix2 s c)) (IntOp.addi (IntOp.muli 4#32 (BitVec.ofNat 32 d.val)) 2#32)) 3#32 := by
      simp only [pointwise] at h1
      exact h1
    rw [four_mul_add _ d.isLt, four_mul _ d.isLt, shrsi_host _ _ (by simp; omega), shrsi_host _ _ (by simp; omega), shrsi_pos _ _ (by omega), shrsi_pos _ _ (by omega)] at h2
    exact h2

end Cert.Sparse
-- ==== Proof.KExp.lean ====
/-
  The power-of-two scale of a row: the exponent counted against the bit patterns of the powers of two and the exponent counted
  against the powers themselves are one integer, and the bit pattern built from it is the power.
-/
module

public import Idealize.ShloMosaic.Lib.WordSum
public import Idealize.ShloMosaic.Lib.WordCmp
public import Idealize.ShloMosaic.PureOps.Ideal

@[expose] public section

namespace Cert.Sparse

open Idealize.ShloMosaic

theorem ofInt_sub (a b : ℤ) : BitVec.ofInt 32 a - BitVec.ofInt 32 b = BitVec.ofInt 32 (a - b) := by
  rw [sub_eq_add_neg a b, BitVec.ofInt_add, BitVec.ofInt_neg, BitVec.sub_eq_add_neg]

/-- A biased exponent shifted to its field is a power of two. -/
theorem ofBits_pow (m : ℕ) (h1 : 1 ≤ m) (h2 : m ≤ 254) :
    Ideal.ofBits .f32 ((BitVec.ofNat 32 m) <<< 23) = (((2 : ℝ) ^ ((m : ℤ) - 127) : ℝ) : EReal) := by
  have hn : ((BitVec.ofNat 32 m) <<< 23).toNat = m * 8388608 := by
    rw [BitVec.toNat_shiftLeft, BitVec.toNat_ofNat, Nat.shiftLeft_eq]
    norm_num; omega
  have hx : (((BitVec.ofNat 32 m) <<< 23).extractLsb' 23 8).toNat = m := by
    rw [BitVec.extractLsb'_toNat, hn, Nat.shiftRight_eq_div_pow]; norm_num; omega
  have hf : (((BitVec.ofNat 32 m) <<< 23).extractLsb' 0 23).toNat = 0 := by
    rw [BitVec.extractLsb'_toNat, hn, Nat.shiftRight_eq_div_pow]; norm_num
  have hs : (((BitVec.ofNat 32 m) <<< 23).extractLsb' (8 + 23) 1 == 1#1) = false := by
    have : (((BitVec.ofNat 32 m) <<< 23).extractLsb' (8 + 23) 1).toNat = 0 := by
      rw [BitVec.extractLsb'_toNat, hn, Nat.shiftRight_eq_div_pow]; norm_num; omega
    rw [beq_eq_false_iff_ne]
    intro h
    rw [h] at this
    exact absurd this (by decide)
  show Ideal.ieee 8 23 _ = _
  unfold Ideal.ieee
  simp only [hx, hf, hs]
  have n1 : ¬ m = 2 ^ 8 - 1 := by norm_num; omega
  have n2 : ¬ m = 0 := by omega
  rw [if_neg n1, if_neg n2]
  refine congrArg (fun r : ℝ => (r : EReal)) ?_
  have e : ((m : ℤ) - 127) = 23 + ((m : ℤ) - (2 ^ (8 - 1) - 1) - ((23 : ℕ) : ℤ)) := by push_cast; ring
  rw [e, zpow_add₀ (by norm_num : (2 : ℝ) ≠ 0)]
  refine congrArg₂ (· * ·) ?_ rfl
  push_cast
  norm_num

theorem ofBits_top : Ideal.ofBits .f32 ((BitVec.ofNat 32 255) <<< 23) = ⊤ := by
  have e : ((BitVec.ofNat 32 255) <<< 23) = 0x7F800000#32 := by decide
  rw [e]
  simp [Ideal.ofBits, Ideal.ieee]

/-- The count the kernel takes: how many of the patterns of exponents 1 … 255 the value reaches. -/
noncomputable def countK (v : EReal) : BitVec 32 :=
  ∑ k : Fin 256, Scalar.select (IntOp.andi (IntOp.cmpi .sgt (BitVec.ofNat 32 k.val) 0#32)
    (Ideal.cmp .oge v (Ideal.ofBits .f32 (IntOp.shli .vector (BitVec.ofNat 32 k.val) 23#32)))) 1#32 0#32

/-- The count the reference takes: how many of the powers 2^(-126) … 2^127 the value reaches. -/
noncomputable def countR (v : EReal) : BitVec 32 :=
  ∑ k : Fin 254, (Ideal.cmp .oge v (Ideal.exp2 ((((IntOp.subi (BitVec.ofNat 32 k.val) 126#32).toInt : ℝ) : EReal)))).setWidth 32

theorem toInt_small (k : ℕ) (hk : k < 254) : (IntOp.subi (BitVec.ofNat 32 k) 126#32).toInt = (k : ℤ) - 126 := by
  unfold IntOp.subi
  rw [BitVec.toInt_sub]
  have e1 : (BitVec.ofNat 32 k).toInt = k := by
    rw [BitVec.toInt_ofNat', Int.bmod_def]; norm_num; omega
  have e2 : (126#32 : BitVec 32).toInt = 126 := by decide
  rw [e1, e2, Int.bmod_def]; norm_num; omega

theorem exp2_int (E : ℤ) : Ideal.exp2 (((E : ℝ)) : EReal) = (((2 : ℝ) ^ E : ℝ) : EReal) := by
  rw [Ideal.exp2_coe]
  congr 1
  exact Real.rpow_intCast 2 E

theorem shli_23 (x : BitVec 32) : IntOp.shli .vector x 23#32 = x <<< 23 := by
  unfold IntOp.shli
  rw [if_pos (by decide)]
  show x <<< (23#32 : BitVec 32).toNat = _
  rfl

/-- The two terms of a count at the same power agree. -/
theorem term_eq (v : EReal) (k : ℕ) (hk : k < 254) :
    Scalar.select (IntOp.andi (IntOp.cmpi .sgt (BitVec.ofNat 32 (k + 1)) 0#32)
      (Ideal.cmp .oge v (Ideal.ofBits .f32 (IntOp.shli .vector (BitVec.ofNat 32 (k + 1)) 23#32)))) 1#32 0#32
    = (if (((2 : ℝ) ^ ((k : ℤ) - 126) : ℝ) : EReal) ≤ v then 1#32 else 0#32) := by
  rw [shli_23, ofBits_pow (k + 1) (by omega) (by omega)]
  have e : (((k + 1 : ℕ) : ℤ) - 127) = (k : ℤ) - 126 := by push_cast; ring
  rw [e]
  have hg : IntOp.cmpi .sgt (BitVec.ofNat 32 (k + 1)) 0#32 = 1#1 := by
    unfold IntOp.cmpi
    have : (0#32 : BitVec 32).slt (BitVec.ofNat 32 (k + 1)) = true := by
      rw [BitVec.slt_iff_toInt_lt]
      have e1 : (BitVec.ofNat 32 (k + 1)).toInt = (k + 1 : ℕ) := by
        rw [BitVec.toInt_ofNat', Int.bmod_def]; push_cast; norm_num; omega
      rw [e1]; simp
    simp [this]
  rw [hg]
  unfold Ideal.cmp Scalar.select IntOp.andi
  by_cases h : (((2 : ℝ) ^ ((k : ℤ) - 126) : ℝ) : EReal) ≤ v
  · simp [h]
  · simp [h]

theorem termR_eq (v : EReal) (k : ℕ) (hk : k < 254) :
    (Ideal.cmp .oge v (Ideal.exp2 ((((IntOp.subi (BitVec.ofNat 32 k) 126#32).toInt : ℝ) : EReal)))).setWidth 32
    = (if (((2 : ℝ) ^ ((k : ℤ) - 126) : ℝ) : EReal) ≤ v then 1#32 else 0#32) := by
  rw [toInt_small k hk, exp2_int]
  unfold Ideal.cmp
  by_cases h : (((2 : ℝ) ^ ((k : ℤ) - 126) : ℝ) : EReal) ≤ v
  · simp [h]
  · simp [h]

/-- A finite value reaches as many patterns as powers. -/
theorem countK_eq (v : EReal) (hv : v < ⊤) : countK v = countR v := by
  unfold countK countR
  rw [Fin.sum_univ_succ, Fin.sum_univ_castSucc]
  have h0 : Scalar.select (IntOp.andi (IntOp.cmpi .sgt (BitVec.ofNat 32 (0 : Fin 256).val) 0#32)
    (Ideal.cmp .oge v (Ideal.ofBits .f32 (IntOp.shli .vector (BitVec.ofNat 32 (0 : Fin 256).val) 23#32)))) 1#32 0#32 = 0#32 := by
    have : IntOp.cmpi .sgt (BitVec.ofNat 32 (0 : Fin 256).val) 0#32 = 0#1 := by decide
    rw [this]
    simp [Scalar.select, IntOp.andi]
  have h1 : Scalar.select (IntOp.andi (IntOp.cmpi .sgt (BitVec.ofNat 32 (Fin.last 254).succ.val) 0#32)
    (Ideal.cmp .oge v (Ideal.ofBits .f32 (IntOp.shli .vector (BitVec.ofNat 32 (Fin.last 254).succ.val) 23#32)))) 1#32 0#32 = 0#32 := by
    have e : (Fin.last 254).succ.val = 255 := rfl
    rw [e, shli_23, ofBits_top]
    have : ¬ (⊤ : EReal) ≤ v := not_le.2 hv
    simp [Scalar.select, IntOp.andi, Ideal.cmp, this]
  rw [h0, h1]
  simp only [Fin.val_succ, Fin.val_castSucc]
  rw [BitVec.zero_add, BitVec.add_zero]
  refine Finset.sum_congr rfl fun k _ => ?_
  rw [term_eq v k.val k.isLt, termR_eq v k.val k.isLt]

theorem countR_le (v : EReal) (hv : v < (((2 : ℝ) ^ (120 : ℤ) : ℝ) : EReal)) : (countR v).toNat ≤ 246 := by
  have hterm : ∀ k : Fin 254, (Ideal.cmp .oge v (Ideal.exp2 ((((IntOp.subi (BitVec.ofNat 32 k.val) 126#32).toInt : ℝ) : EReal)))).setWidth 32
      = if (((2 : ℝ) ^ ((k.val : ℤ) - 126) : ℝ) : EReal) ≤ v then 1#32 else 0#32 := fun k => termR_eq v k.val k.isLt
  unfold countR
  simp only [hterm]
  have hb : ∀ k : Fin 254, (if (((2 : ℝ) ^ ((k.val : ℤ) - 126) : ℝ) : EReal) ≤ v then 1#32 else 0#32).toNat ≤ (if k.val < 246 then 1 else 0) := by
    intro k
    by_cases h : (((2 : ℝ) ^ ((k.val : ℤ) - 126) : ℝ) : EReal) ≤ v
    · have hlt := lt_of_le_of_lt h hv
      have h3 : ((2 : ℝ) ^ ((k.val : ℤ) - 126)) < (2 : ℝ) ^ (120 : ℤ) := by exact_mod_cast hlt
      have h4 := (zpow_lt_zpow_iff_right₀ (by norm_num : (1 : ℝ) < 2)).1 h3
      rw [if_pos h, if_pos (by omega)]; decide
    · rw [if_neg h]; simp
  have hs : ∑ k : Fin 254, (if (((2 : ℝ) ^ ((k.val : ℤ) - 126) : ℝ) : EReal) ≤ v then 1#32 else 0#32).toNat ≤ 246 :=
    (Finset.sum_le_sum fun k _ => hb k).trans (by
      rw [Finset.sum_boole]
      exact_mod_cast (by decide : (Finset.univ.filter fun k : Fin 254 => k.val < 246).card ≤ 246))
  rw [WordSum.toNat_sum _ _ (lt_of_le_of_lt hs (by norm_num))]
  exact hs

/-- The kernel's exponent from its count. -/
def expK (n : BitVec 32) : BitVec 32 :=
  Scalar.select (IntOp.ori (IntOp.cmpi .eq n 0#32) (IntOp.cmpi .eq n 255#32)) 0#32 (IntOp.subi n 126#32)
/-- The reference's exponent from its count. -/
def expR (n : BitVec 32) : BitVec 32 := Scalar.select (IntOp.cmpi .eq n 0#32) 0#32 (IntOp.subi n 126#32)

/-- Both exponents are one integer, between -126 and 126. -/
theorem exp_eq (n : BitVec 32) (hn : n.toNat ≤ 246) :
    ∃ E : ℤ, -126 ≤ E ∧ E ≤ 126 ∧ expK n = BitVec.ofInt 32 E ∧ expR n = BitVec.ofInt 32 E := by
  by_cases h0 : n = 0#32
  · subst h0
    exact ⟨0, by norm_num, by norm_num, by decide, by decide⟩
  · have h255 : ¬ n = 255#32 := by
      rintro rfl; exact absurd hn (by decide)
    have hpos : 1 ≤ n.toNat := by
      rcases Nat.eq_zero_or_pos n.toNat with h | h
      · exact absurd (BitVec.eq_of_toNat_eq (by simpa using h)) h0
      · exact h
    have hsub : IntOp.subi n 126#32 = BitVec.ofInt 32 ((n.toNat : ℤ) - 126) := by
      unfold IntOp.subi
      rw [← ofInt_sub, BitVec.ofInt_natCast, BitVec.ofNat_toNat, BitVec.setWidth_eq]
      rfl
    refine ⟨(n.toNat : ℤ) - 126, by omega, by omega, ?_, ?_⟩
    · rw [← hsub]
      have b0 : (n == 0#32) = false := beq_eq_false_iff_ne.2 h0
      have b1 : (n == 255#32) = false := beq_eq_false_iff_ne.2 h255
      simp only [expK, Scalar.select, IntOp.cmpi, IntOp.ori, b0, b1]
      rfl
    · rw [← hsub]
      have b0 : (n == 0#32) = false := beq_eq_false_iff_ne.2 h0
      simp only [expR, Scalar.select, IntOp.cmpi, b0]
      rfl

theorem ofBits_add (E : ℤ) (h1 : -126 ≤ E) (h2 : E ≤ 126) :
    Ideal.ofBits .f32 (IntOp.shli .vector (IntOp.addi 127#32 (BitVec.ofInt 32 E)) 23#32) = (((2 : ℝ) ^ E : ℝ) : EReal) := by
  obtain ⟨m, hm⟩ : ∃ m : ℕ, (m : ℤ) = 127 + E := ⟨(127 + E).toNat, by omega⟩
  have e : IntOp.addi 127#32 (BitVec.ofInt 32 E) = BitVec.ofNat 32 m := by
    unfold IntOp.addi
    rw [show (127#32 : BitVec 32) = BitVec.ofInt 32 127 from by decide, ← BitVec.ofInt_add, ← hm, BitVec.ofInt_natCast]
  rw [e, shli_23, ofBits_pow m (by omega) (by omega)]
  congr 3; omega

theorem ofBits_sub (E : ℤ) (h1 : -126 ≤ E) (h2 : E ≤ 126) :
    Ideal.ofBits .f32 (IntOp.shli .vector (IntOp.subi 127#32 (BitVec.ofInt 32 E)) 23#32) = (((2 : ℝ) ^ (-E) : ℝ) : EReal) := by
  obtain ⟨m, hm⟩ : ∃ m : ℕ, (m : ℤ) = 127 - E := ⟨(127 - E).toNat, by omega⟩
  have e : IntOp.subi 127#32 (BitVec.ofInt 32 E) = BitVec.ofNat 32 m := by
    unfold IntOp.subi
    rw [show (127#32 : BitVec 32) = BitVec.ofInt 32 127 from by decide, ofInt_sub, ← hm, BitVec.ofInt_natCast]
  rw [e, shli_23, ofBits_pow m (by omega) (by omega)]
  congr 3; omega

theorem toInt_ofInt (E : ℤ) (h1 : -126 ≤ E) (h2 : E ≤ 126) : (BitVec.ofInt 32 E).toInt = E := by
  rw [BitVec.toInt_ofInt, Int.bmod_def]; norm_num; omega

end Cert.Sparse
-- ==== Proof.KQuant.lean ====
/-
  The quantiser read at an index: the kernel's payloads and the reference's, over the extended reals.
-/
module

public import proofs.«01_k».proof.Proof.KLoop
public import proofs.«01_k».proof.Proof.KExp
public import Idealize.ShloMosaic.Lib.Pointwise
public import Idealize.ShloMosaic.Lib.ValueIdx

@[expose] public section

noncomputable section

namespace Cert.Sparse

open Idealize.ShloMosaic

/-- A row's greatest absolute value times the constant nearest 1/448. -/
def rowv (g : Fin 1536 → EReal) : EReal :=
  Finset.univ.fold max (Ideal.ofBits .f32 0xFF800000#32) (fun k : Fin 1536 => max (g k) (-(g k))) * Ideal.ofBits .f32 0x3B124925#32

/-- The exponent of a row as the kernel counts it. -/
def rowE (g : Fin 1536 → EReal) : BitVec 32 := expK (countK (rowv g))
/-- The reciprocal of a row's scale. -/
def rowInv (g : Fin 1536 → EReal) : EReal := Ideal.ofBits .f32 (IntOp.shli .vector (IntOp.subi 127#32 (rowE g)) 23#32)
/-- A row's scale. -/
def rowScale (g : Fin 1536 → EReal) : EReal := Ideal.ofBits .f32 (IntOp.shli .vector (IntOp.addi 127#32 (rowE g)) 23#32)
/-- A value clipped to the codes' range. -/
def clip448 (x : EReal) : EReal := min (Ideal.ofBits .f32 0x43E00000#32) (max (Ideal.ofBits .f32 0xC3E00000#32) x)

/-- A fold of word additions is the sum. -/
theorem fold_addi {n : ℕ} (f : Fin n → BitVec 32) :
    Finset.univ.fold IntOp.addi 0#32 f = ∑ k, f k := by
  rw [Finset.sum, Finset.fold, Multiset.sum]
  rfl

open Cert.KernelIdeal Cert.KernelIdeal.Gen

theorem iota_lane {a b : ℕ} (r : Fin a) (k : Fin b) :
    List.foldl (fun n c => n * (![a, b] : Fin 2 → ℕ) c + ((ix2 r k : (⟨2, ![a, b]⟩ : Shape).Idx) c).val) 0 [1] = k.val := by
  simp [ix2]

theorem pay4_apply (X : Vec Ideal S64x1536 .bf16) (r : Fin 64) (z : Fin 1) :
    k0_pay4 (F := Ideal) X (ix2 r z) = rowE fun k => X (ix2 r k) := by
  unfold k0_pay4 k0_pay3
  have hne : ¬ (64 : ℕ) = 1 := by decide
  simp only [pointwise]
  simp only [iota_lane, hne, dite_false]
  unfold rowE expK countK rowv
  simp only [← fold_addi]
  rfl

theorem pay5_apply (X : Vec Ideal S64x1536 .bf16) (r : Fin 64) (z : Fin 1) :
    k0_pay5 (F := Ideal) X (ix2 r z) = rowInv fun k => X (ix2 r k) := by
  unfold k0_pay5 rowInv
  rw [← pay4_apply X r z]
  rfl

theorem pay7_apply (X : Vec Ideal S64x1536 .bf16) (r : Fin 64) (z : Fin 1) :
    k0_pay7 (F := Ideal) (k0_pay4 X) k0_pay6 (ix2 r z) = rowScale fun k => X (ix2 r k) := by
  unfold k0_pay7 k0_pay6 rowScale
  rw [← pay4_apply X r z]
  rfl

theorem pay9_apply (X : Vec Ideal S64x1536 .bf16) (r : Fin 64) (l : Fin 128) :
    k0_pay9 (F := Ideal) (k0_pay4 X) k0_pay6 (ix2 r l) = rowScale fun k => X (ix2 r k) := by
  have hne : ¬ (64 : ℕ) = 1 := by decide
  unfold k0_pay9
  rw [shapeCast_self, shapeCast_self]
  simp only [pointwise, hne, dite_false]
  exact pay7_apply X r 0

theorem pay8_apply (X : Vec Ideal S64x1536 .bf16) (r : Fin 64) (k : Fin 1536) :
    k0_pay8 (F := Ideal) (k0_pay3 X) (k0_pay5 X) (ix2 r k) = clip448 (X (ix2 r k) * rowInv fun k => X (ix2 r k)) := by
  have hne : ¬ (64 : ℕ) = 1 := by decide
  rw [← pay5_apply X r 0]
  unfold k0_pay8 k0_pay3 clip448
  simp only [pointwise, hne, dite_false]
  rfl

/-- Row `64 k + j` of the input is row `j` of trip `k`. -/
theorem rawX_apply (X : Vec Ideal S1536x1536 .bf16) (k : Fin k0_t1_loop.trips) (j : Fin 64) (n r : Fin 1536) (hr : r.val = 64 * k.val + j.val) :
    rawX X k (ix2 j n) = X (ix2 r n) := by
  unfold rawX View.ld
  congr 1
  funext c
  match c with
  | ⟨0, _⟩ =>
    refine Fin.ext ?_
    show k0_off1 k 0 + 1 * j.val = r.val
    rw [off1_eq, hr]
    show 64 * k.val + 1 * j.val = _
    omega
  | ⟨1, _⟩ =>
    refine Fin.ext ?_
    show k0_off1 k 1 + 1 * n.val = n.val
    rw [off1_eq]
    show 0 + 1 * n.val = _
    omega

theorem raw_row (X : Vec Ideal S1536x1536 .bf16) (r n : Fin 1536) :
    rawX X ⟨r.val / 64, row_trip _ r.isLt⟩ (ix2 ⟨r.val % 64, by omega⟩ n) = X (ix2 r n) :=
  rawX_apply X ⟨r.val / 64, row_trip _ r.isLt⟩ ⟨r.val % 64, by omega⟩ n r (by show r.val = 64 * (r.val / 64) + r.val % 64; omega)

theorem codes_apply (X : Vec Ideal S1536x1536 .bf16) (r k : Fin 1536) :
    CODES X (ix2 r k) = clip448 (X (ix2 r k) * rowInv fun k => X (ix2 r k)) := by
  show k0_pay8 (F := Ideal) (k0_pay3 (rawX X ⟨r.val / 64, row_trip _ r.isLt⟩)) (k0_pay5 (rawX X ⟨r.val / 64, row_trip _ r.isLt⟩)) (ix2 (⟨r.val % 64, by omega⟩ : Fin 64) k) = _
  rw [pay8_apply]
  simp only [raw_row]

theorem scales_apply (X : Vec Ideal S1536x1536 .bf16) (r : Fin 1536) (z : Fin 1) :
    SCALES X (ix2 r z) = rowScale fun k => X (ix2 r k) := by
  show k0_pay7 (F := Ideal) (k0_pay4 (rawX X ⟨r.val / 64, row_trip _ r.isLt⟩)) k0_pay6 (ix2 (⟨r.val % 64, by omega⟩ : Fin 64) z) = _
  rw [pay7_apply]
  simp only [raw_row]

theorem xsv_apply (X : Vec Ideal S1536x1536 .bf16) (r : Fin 1536) (l : Fin 128) :
    XSV X (ix2 r l) = rowScale fun k => X (ix2 r k) := by
  show k0_pay9 (F := Ideal) (k0_pay4 (rawX X ⟨r.val / 64, row_trip _ r.isLt⟩)) k0_pay6 (ix2 (⟨r.val % 64, by omega⟩ : Fin 64) l) = _
  rw [pay9_apply]
  simp only [raw_row]

end Cert.Sparse
-- ==== Proof.KRefExp.lean ====
/-
  The reference's exponent of a row, read at an index.
-/
module

public import proofs.«01_k».proof.Proof.KQuant
public import proofs.«01_k».proof.Proof.Gen.ReferenceIdeal.Frame

@[expose] public section

noncomputable section

namespace Cert.Sparse

open Idealize.ShloMosaic Cert.ReferenceIdeal Cert.ReferenceIdeal.Gen

theorem refpay3_apply (X : Vec Ideal S1536x1536 .bf16) (r : Fin 1536) (z : Fin 1) :
    k0_pay3 (F := Ideal) X (ix2 r z) = (((expR (countR (rowv fun k => X (ix2 r k)))).toInt : ℝ) : EReal) := by
  unfold k0_pay3 k0_pay2
  have hne : ¬ (1536 : ℕ) = 1 := by decide
  simp only [pointwise]
  simp only [iota_lane, hne, dite_false]
  unfold rowv expR countR
  simp only [← fold_addi]
  rfl
end Cert.Sparse
-- ==== Proof.KVal.lean ====
/-
  The kernel's quantiser and the reference's: one code and one scale for a row of finite values.
-/
module

public import proofs.«01_k».proof.Proof.KRefExp

@[expose] public section

noncomputable section

namespace Cert.Sparse

open Idealize.ShloMosaic

theorem fmax_val : Ideal.ofBits .f32 0x7F7F0000#32 = ((16711680 * (2 : ℝ) ^ (104 : ℕ) : ℝ) : EReal) := by
  simp [Ideal.ofBits, Ideal.ieee]
theorem recip_val : Ideal.ofBits .f32 0x3B124925#32 = ((9586981 * ((2 : ℝ) ^ (32 : ℕ))⁻¹ : ℝ) : EReal) := by
  simp [Ideal.ofBits, Ideal.ieee]

/-- A row of values within the finite range has a greatest value times 1/448 below 2^120. -/
theorem rowv_lt (g : Fin 1536 → EReal) (hg : ∀ k, max (g k) (-(g k)) ≤ Ideal.ofBits .f32 0x7F7F0000#32) :
    rowv g < (((2 : ℝ) ^ (120 : ℤ) : ℝ) : EReal) := by
  have hb : Ideal.ofBits .f32 0xFF800000#32 = ⊥ := by simp [Ideal.ofBits, Ideal.ieee]
  have h1 : Finset.univ.fold max (Ideal.ofBits .f32 0xFF800000#32) (fun k : Fin 1536 => max (g k) (-(g k))) ≤ Ideal.ofBits .f32 0x7F7F0000#32 :=
    (Finset.fold_max_le _).2 ⟨by rw [hb]; exact bot_le, fun k _ => hg k⟩
  have hc : (0 : EReal) ≤ Ideal.ofBits .f32 0x3B124925#32 := by
    rw [recip_val]; exact EReal.coe_nonneg.2 (by norm_num)
  unfold rowv
  refine lt_of_le_of_lt (mul_le_mul_of_nonneg_right h1 hc) ?_
  rw [fmax_val, recip_val, ← EReal.coe_mul, EReal.coe_lt_coe_iff]
  norm_num

/-- One integer is the exponent of both. -/
theorem row_exp (g : Fin 1536 → EReal) (hg : ∀ k, max (g k) (-(g k)) ≤ Ideal.ofBits .f32 0x7F7F0000#32) :
    rowScale g = Ideal.exp2 (((expR (countR (rowv g))).toInt : ℝ) : EReal)
    ∧ rowInv g = Ideal.exp2 (Ideal.ofBits .f32 0#32 - (((expR (countR (rowv g))).toInt : ℝ) : EReal)) := by
  have hv := rowv_lt g hg
  obtain ⟨E, h1, h2, hk, hr⟩ := exp_eq _ (countR_le _ hv)
  have h0 : Ideal.ofBits .f32 0#32 = ((0 : ℝ) : EReal) := by simp [Ideal.ofBits, Ideal.ieee]
  unfold rowScale rowInv rowE
  rw [countK_eq _ (hv.trans (EReal.coe_lt_top _)), hk, hr, toInt_ofInt E h1 h2, ofBits_add E h1 h2, ofBits_sub E h1 h2, exp2_int]
  refine ⟨rfl, ?_⟩
  rw [h0, ← EReal.coe_sub, show (0 : ℝ) - (E : ℝ) = ((-E : ℤ) : ℝ) by push_cast; ring, exp2_int]

open Cert.ReferenceIdeal Cert.ReferenceIdeal.Gen in
theorem refpay4_apply (X : Vec Ideal S1536x1536 .bf16) (r : Fin 1536) (z : Fin 1) :
    k0_pay4 (F := Ideal) X (ix2 r z) = Ideal.exp2 (((expR (countR (rowv fun k => X (ix2 r k)))).toInt : ℝ) : EReal) := by
  rw [← refpay3_apply X r z]
  rfl

open Cert.ReferenceIdeal Cert.ReferenceIdeal.Gen in
theorem refpay5_apply (X : Vec Ideal S1536x1536 .bf16) (r k : Fin 1536) :
    k0_pay5 (F := Ideal) X (ix2 r k) = clip448 (X (ix2 r k) * Ideal.exp2 (Ideal.ofBits .f32 0#32 - (((expR (countR (rowv fun k => X (ix2 r k)))).toInt : ℝ) : EReal))) := by
  rw [← refpay3_apply X r 0]
  unfold k0_pay5 k0_pay2 clip448
  generalize k0_pay3 (F := Ideal) X = P
  simp only [pointwise]
  rfl

section

variable (X : Vec Ideal Cert.KernelIdeal.S1536x1536 .bf16)
  (hX : ∀ r k : Fin 1536, max (X (ix2 r k)) (-(X (ix2 r k))) ≤ Ideal.ofBits .f32 0x7F7F0000#32)
include hX

theorem codes_eq : Cert.KernelIdeal.Gen.CODES X = Cert.ReferenceIdeal.Gen.k0_pay5 (F := Ideal) X := by
  funext y
  rw [show y = ix2 (n0 := 1536) (n1 := 1536) (y 0) (y 1) from by funext a; fin_cases a <;> rfl]
  refine (codes_apply X (y 0) (y 1)).trans ((congrArg (fun s => clip448 (X (ix2 (y 0) (y 1)) * s)) (row_exp _ (hX (y 0))).2).trans (refpay5_apply X (y 0) (y 1)).symm)

theorem scales_eq : Cert.KernelIdeal.Gen.SCALES X = Cert.ReferenceIdeal.Gen.k0_pay4 (F := Ideal) X := by
  funext y
  rw [show y = ix2 (n0 := 1536) (n1 := 1) (y 0) (y 1) from by funext a; fin_cases a <;> rfl]
  exact (scales_apply X (y 0) (y 1)).trans ((row_exp _ (hX (y 0))).1.trans (refpay4_apply X (y 0) (y 1)).symm)

end

end Cert.Sparse
-- ==== Proof.KFrame.lean ====
/- The proof data of the low-precision kernel's pipeline, its body at every point and the run. -/
module

public import proofs.«01_k».proof.Proof.KOut
public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref's contents, opened to the buffer's. -/
theorem owns_open {c : Thread nD τ} {sp : Space} {sh : Shape} {e : EltTy} (M : Memref sig c.2.kind sp sh e) (q : PosShare TreeShare) (x : sh.Idx → Elt F e) :
    (owns c M q x : sProp 𝕄) ⊢ iprop(∃ f, ⌜M.view.read (Elt F) f = x⌝ ∗ (M.view.loc c ↦[M.view.set]{q} f)) := by
  unfold owns; iintro H; iexact H

/-- The converse, at contents that read `x`. -/
theorem owns_close {c : Thread nD τ} {sp : Space} {sh : Shape} {e : EltTy} (M : Memref sig c.2.kind sp sh e) (q : PosShare TreeShare) (x : sh.Idx → Elt F e)
    (f : M.view.ty.Contents (Elt F)) (h : M.view.read (Elt F) f = x) : (M.view.loc c ↦[M.view.set]{q} f : sProp 𝕄) ⊢ owns c M q x := by
  unfold owns; iintro H
  iexists f; isplitr
  · ipureintro; exact h
  · iexact H

theorem N_pos : 0 < cfg0.N := by rw [show cfg0.N = 7 from N_0]; decide

/-- The block of activations, the same at every point. -/
def Xc (c : Dev nD) : Vec F S1536x1536 .bf16 := iblk m c 0 ⟨0, N_pos⟩

/-- The product block of point `t`. -/
def Yt (c : Dev nD) (t : Fin cfg0.N) : Vec F S1536x1280 .bf16 :=
  Yof (XPV (Xc m c)) (XSV (Xc m c)) ![iblk m c 1 t, iblk m c 2 t, iblk m c 3 t, iblk m c 4 t, iblk m c 5 t, iblk m c 6 t, iblk m c 7 t, iblk m c 8 t, iblk m c 9 t, iblk m c 10 t] (iblk m c 11 t) (iblk m c 12 t)

/-- The proof data: the inputs' buffers at their blocks, the outputs' at the values above; before the first point the scratch holds
    anything, afterwards the permuted codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Yt m c t
    | ⟨14, _⟩ => CODES (Xc m c)
    | ⟨15, _⟩ => SCALES (Xc m c)
    | ⟨_ + 16, h⟩ => absurd h (Nat.not_lt.2 (Nat.le_add_left _ _))
  Φ t := if t.val = 0 then Pipeline.ΦA spec0 c else
    iprop(iprop(owns (c : Thread nD τ) scM0_0 fullShare (XPV (Xc m c)) ∗ owns (c : Thread nD τ) scM0_1 fullShare (XSV (Xc m c)) ∗ (∃ d, owns (c : Thread nD τ) scM0_2 fullShare d)) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = Yt m c t := by dsimp only [dats]
theorem after0_14 (c : Dev nD) (t : Fin cfg0.N) : (dats m 0 c).after 14 t = CODES (Xc m c) := by dsimp only [dats]
theorem after0_15 (c : Dev nD) (t : Fin cfg0.N) : (dats m 0 c).after 15 t = SCALES (Xc m c) := by dsimp only [dats]

theorem Phi_zero (c : Dev nD) (t : Fin (cfg0.N + 1)) (h : t.val = 0) : (dats m 0 c).Φ t = Pipeline.ΦA spec0 c := by
  dsimp only [dats]; rw [if_pos h]

theorem Phi_pos (c : Dev nD) (t : Fin (cfg0.N + 1)) (h : t.val ≠ 0) : (dats m 0 c).Φ t =
    iprop(iprop(owns (c : Thread nD τ) scM0_0 fullShare (XPV (Xc m c)) ∗ owns (c : Thread nD τ) scM0_1 fullShare (XSV (Xc m c)) ∗ (∃ d, owns (c : Thread nD τ) scM0_2 fullShare d)) ∗ (∃ r, prngReg c r)) := by
  dsimp only [dats]; rw [if_neg h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

theorem fresh_14 : ∀ t : Fin cfg0.N, t.val ≠ 0 → cfg0.fresh 14 t.val = false :=
  (by decide +kernel : ∀ t : Fin grid0.N, t.val ≠ 0 → cfg0.fresh 14 t.val = false)

theorem live_14 : ∀ t : Fin cfg0.N, t.val = 0 → cfg0.idle 14 (grid0.coords t) = false :=
  (by decide +kernel : ∀ t : Fin grid0.N, t.val = 0 → cfg0.idle 14 (grid0.coords t) = false)

/-- After the first point the buffer holds what that point left. -/
theorem before0_14 (c : Dev nD) (t : Fin cfg0.N) (ht : t.val ≠ 0) (d) : (dats m 0 c).before 14 t d = CODES (Xc m c) := by
  rw [(dats m 0 c).before_out_traj 14 rfl (fun _ _ => rfl) (fun t _ _ _ => by rw [after0_14, after0_14]) t.val t rfl d, fresh_14 t ht, after0_14]
  exact if_neg Bool.false_ne_true

/-- The buffer at that value is what the point must leave. -/
theorem leaves0_14 (c : Dev nD) (t : Fin cfg0.N) : owns (c : Thread nD τ) (ms0_14 t) fullShare (CODES (Xc m c)) ⊢ ((dats m 0 c).leavesExact 14 t : sProp 𝕄) := by
  by_cases ht : t.val = 0
  · unfold Dat.leavesExact
    rw [live_14 t ht, after0_14]
  · unfold Dat.leavesExact
    rcases hi : cfg0.idle 14 (grid0.coords t) with _ | _
    · dsimp only; rw [after0_14]
    · rcases hf : (cfg0.win 14).flush t with _ | _
      · dsimp only
        iintro H
        iexists (CODES (Xc m c))
        rw [before0_14 m c t ht]
        iexact H
      · dsimp only; rw [after0_14]

theorem fresh_15 : ∀ t : Fin cfg0.N, t.val ≠ 0 → cfg0.fresh 15 t.val = false :=
  (by decide +kernel : ∀ t : Fin grid0.N, t.val ≠ 0 → cfg0.fresh 15 t.val = false)

theorem live_15 : ∀ t : Fin cfg0.N, t.val = 0 → cfg0.idle 15 (grid0.coords t) = false :=
  (by decide +kernel : ∀ t : Fin grid0.N, t.val = 0 → cfg0.idle 15 (grid0.coords t) = false)

/-- After the first point the buffer holds what that point left. -/
theorem before0_15 (c : Dev nD) (t : Fin cfg0.N) (ht : t.val ≠ 0) (d) : (dats m 0 c).before 15 t d = SCALES (Xc m c) := by
  rw [(dats m 0 c).before_out_traj 15 rfl (fun _ _ => rfl) (fun t _ _ _ => by rw [after0_15, after0_15]) t.val t rfl d, fresh_15 t ht, after0_15]
  exact if_neg Bool.false_ne_true

/-- The buffer at that value is what the point must leave. -/
theorem leaves0_15 (c : Dev nD) (t : Fin cfg0.N) : owns (c : Thread nD τ) (ms0_15 t) fullShare (SCALES (Xc m c)) ⊢ ((dats m 0 c).leavesExact 15 t : sProp 𝕄) := by
  by_cases ht : t.val = 0
  · unfold Dat.leavesExact
    rw [live_15 t ht, after0_15]
  · unfold Dat.leavesExact
    rcases hi : cfg0.idle 15 (grid0.coords t) with _ | _
    · dsimp only; rw [after0_15]
    · rcases hf : (cfg0.win 15).flush t with _ | _
      · dsimp only
        iintro H
        iexists (SCALES (Xc m c))
        rw [before0_15 m c t ht]
        iexact H
      · dsimp only; rw [after0_15]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem liveAt0_13 : ∀ t : Fin cfg0.N, cfg0.idle 13 (grid0.coords t) = false := fun _ => rfl

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl, Phi_pos m c t.succ (Nat.succ_ne_zero _)]
  have hN : t.val < 7 := lt_of_lt_of_eq t.isLt (show cfg0.N = 7 from N_0)
  by_cases h0 : t.val = 0
  · rw [Phi_zero m c t.castSucc h0, PhiA0_eq]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    have hx : Xc m c = iblk m c 0 t := by
      obtain rfl : t = ⟨0, N_pos⟩ := Fin.ext h0
      rfl
    iintro ⟨⟨⟨⟨%e0, HS0⟩, ⟨%e1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    ihave HS0' := (owns_open (c := (c : Thread nD τ)) scM0_0 fullShare e0) $$ HS0
    icases HS0' with ⟨%g0, %hg0, HS0⟩
    ihave HS1' := (owns_open (c := (c : Thread nD τ)) scM0_1 fullShare e1) $$ HS1
    icases HS1' with ⟨%g1, %hg1, HS1⟩
    ihave H13' := (owns_open (c := (c : Thread nD τ)) (ms0_13 t) fullShare _) $$ H13
    icases H13' with ⟨%f13, %hf13, H13⟩
    ihave H14' := (owns_open (c := (c : Thread nD τ)) (ms0_14 t) fullShare _) $$ H14
    icases H14' with ⟨%f14, %hf14, H14⟩
    ihave H15' := (owns_open (c := (c : Thread nD τ)) (ms0_15 t) fullShare _) $$ H15
    icases H15' with ⟨%f15, %hf15, H15⟩
    iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) f13 f14 f15 g0 g1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    iintro ⟨H0, H1, H2, H3, H4, H5, H6, H7, H8, H9, H10, H11, H12, H13, H14, H15, HS0, HS1, HS2⟩
    isplitl [HS0 HS1 HS2 Hg]
    · isplitl [HS0 HS1 HS2]
      · isplitl [HS0]
        · iapply (owns_close (c := (c : Thread nD τ)) scM0_0 fullShare _ _ ((outA_xp (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) f13 f14 f15 g0 g1).trans (congrArg XPV hx.symm))); iexact HS0
        isplitl [HS1]
        · iapply (owns_close (c := (c : Thread nD τ)) scM0_1 fullShare _ _ ((outA_xs (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) f13 f14 f15 g0 g1).trans (congrArg XSV hx.symm))); iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iapply (owns_close (c := (c : Thread nD τ)) (ms0_13 t) fullShare _ _ ((outA_y (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) f13 f14 f15 g0 g1).trans (by unfold Yt; rw [hx]))); iexact H13
    isplitl [H14]
    · iapply (leaves0_14 m c t)
      iapply (owns_close (c := (c : Thread nD τ)) (ms0_14 t) fullShare _ _ ((outA_codes (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) f13 f14 f15 g0 g1).trans (congrArg CODES hx.symm))); iexact H14
    iapply (leaves0_15 m c t)
    iapply (owns_close (c := (c : Thread nD τ)) (ms0_15 t) fullShare _ _ ((outA_scales (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) ((hcond0_0 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) f13 f14 f15 g0 g1).trans (congrArg SCALES hx.symm))); iexact H15
  · rw [Phi_pos m c t.castSucc h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    simp only [before0_14 m c t h0, before0_15 m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    ihave H13' := (owns_open (c := (c : Thread nD τ)) (ms0_13 t) fullShare _) $$ H13
    icases H13' with ⟨%f13, %hf13, H13⟩
    iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (XPV (Xc m c)) (XSV (Xc m c)) f13).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [H13]; · iexact H13
    isplitl [HS2]; · iexact HS2
    iintro ⟨H0, H1, H2, H3, H4, H5, H6, H7, H8, H9, H10, H11, H12, HS0, HS1, H13, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iapply (owns_close (c := (c : Thread nD τ)) (ms0_13 t) fullShare _ _ ((outB_y (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (fun h => h0 (by have := (hcond0_0 t).mp h; omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (XPV (Xc m c)) (XSV (Xc m c)) f13).trans rfl)); iexact H13
    isplitl [H14]
    · iapply (leaves0_14 m c t); iexact H14
    iapply (leaves0_15 m c t); iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [Phi_zero m c 0 rfl]

theorem Phi_out (c : Dev nD) : (dats m 0 c).Φ (Fin.last cfg0.N) ⊢ (Pipeline.ΦA spec0 c : sProp 𝕄) := by
  rw [Phi_pos m c (Fin.last cfg0.N) (by show cfg0.N ≠ 0; exact N_pos.ne'), PhiA0_eq]
  iintro ⟨⟨H0, H1, H2⟩, Hg⟩
  isplitl [H0 H1 H2]
  · isplitl [H0]; · iexists _; iexact H0
    isplitl [H1]; · iexists _; iexact H1
    iexact H2
  iexact Hg

set_option backward.isDefEq.respectTransparency.types false in
set_option maxHeartbeats 800000 in
/-- The run: every array of the pipeline at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.KArr.lean ====
/-
  The kernel's arrays: each input block as a part of its array, and what the three results hold at the end.
-/
module

public import proofs.«01_k».proof.Proof.KFrame
public import Idealize.ShloMosaic.Lib.Pipeline.Value
public import Idealize.ShloMosaic.Lib.ValueIdx

@[expose] public section

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Window)

variable {F : FTy → Type} [FloatOps F]

variable (m : (ℓ : Loc nD τ sig) → Buf (Elt F) ℓ) (ρ : Dev nD → PrngReg)

theorem N7 (t : Fin cfg0.N) : t.val < 7 := lt_of_lt_of_eq t.isLt (show cfg0.N = 7 from N_0)

theorem index0_0 : ∀ t : Fin grid0.N, win0_0.index t 0 = 0 ∧ win0_0.index t 1 = 0 := by decide +kernel

theorem index0_1 : ∀ t : Fin grid0.N, win0_1.index t 0 = 0 ∧ win0_1.index t 1 = 10 * t.val + 0 := by decide +kernel

theorem index0_2 : ∀ t : Fin grid0.N, win0_2.index t 0 = 0 ∧ win0_2.index t 1 = 10 * t.val + 1 := by decide +kernel

theorem index0_3 : ∀ t : Fin grid0.N, win0_3.index t 0 = 0 ∧ win0_3.index t 1 = 10 * t.val + 2 := by decide +kernel

theorem index0_4 : ∀ t : Fin grid0.N, win0_4.index t 0 = 0 ∧ win0_4.index t 1 = 10 * t.val + 3 := by decide +kernel

theorem index0_5 : ∀ t : Fin grid0.N, win0_5.index t 0 = 0 ∧ win0_5.index t 1 = 10 * t.val + 4 := by decide +kernel

theorem index0_6 : ∀ t : Fin grid0.N, win0_6.index t 0 = 0 ∧ win0_6.index t 1 = 10 * t.val + 5 := by decide +kernel

theorem index0_7 : ∀ t : Fin grid0.N, win0_7.index t 0 = 0 ∧ win0_7.index t 1 = 10 * t.val + 6 := by decide +kernel

theorem index0_8 : ∀ t : Fin grid0.N, win0_8.index t 0 = 0 ∧ win0_8.index t 1 = 10 * t.val + 7 := by decide +kernel

theorem index0_9 : ∀ t : Fin grid0.N, win0_9.index t 0 = 0 ∧ win0_9.index t 1 = 10 * t.val + 8 := by decide +kernel

theorem index0_10 : ∀ t : Fin grid0.N, win0_10.index t 0 = 0 ∧ win0_10.index t 1 = 10 * t.val + 9 := by decide +kernel

theorem index0_11 : ∀ t : Fin grid0.N, win0_11.index t 0 = 0 ∧ win0_11.index t 1 = t.val := by decide +kernel

theorem index0_12 : ∀ t : Fin grid0.N, win0_12.index t 0 = 0 ∧ win0_12.index t 1 = t.val := by decide +kernel

theorem index0_13 : ∀ t : Fin grid0.N, win0_13.index t 0 = 0 ∧ win0_13.index t 1 = t.val := by decide +kernel

theorem index0_14 : ∀ t : Fin grid0.N, win0_14.index t 0 = 0 ∧ win0_14.index t 1 = 0 := by decide +kernel

theorem index0_15 : ∀ t : Fin grid0.N, win0_15.index t 0 = 0 ∧ win0_15.index t 1 = 0 := by decide +kernel

/-- The activations' block is the whole array. -/
theorem Xc_apply (c : Dev nD) (y z : Fin 1536) : Xc m c (ix2 y z) = V m c main_v0 (ix2 y z) := by
  have e := index0_0 ⟨0, N_pos⟩
  show V m c main_v0 ((win0_0.rect ⟨0, N_pos⟩).emb (ix2 y z)) = _
  congr 1
  funext a
  match a with
  | ⟨0, _⟩ => exact Fin.ext ((win0_0.rect_emb_val ⟨0, N_pos⟩ (ix2 y z) 0).trans (by rw [e.1]; show 0 * 1536 + y.val = y.val; omega))
  | ⟨1, _⟩ => exact Fin.ext ((win0_0.rect_emb_val ⟨0, N_pos⟩ (ix2 y z) 1).trans (by rw [e.2]; show 0 * 1536 + z.val = z.val; omega))

theorem blk0_1 (c : Dev nD) (t : Fin cfg0.N) (y : Fin 768) (z : Fin 128) (h : 128 * (10 * t.val + 0) + z.val < 8960) :
    iblk m c 1 t (ix2 y z) = V m c main_arg1 (ix2 y (⟨128 * (10 * t.val + 0) + z.val, h⟩ : Fin 8960)) := by
  have e := index0_1 t
  show V m c main_arg1 ((win0_1.rect t).emb (ix2 y z)) = _
  congr 1
  funext a
  match a with
  | ⟨0, _⟩ => exact Fin.ext ((win0_1.rect_emb_val t (ix2 y z) 0).trans (by rw [e.1]; show 0 * 768 + y.val = y.val; omega))
  | ⟨1, _⟩ => exact Fin.ext ((win0_1.rect_emb_val t (ix2 y z) 1).trans (by rw [e.2]; show (10 * t.val + 0) * 128 + z.val = 128 * (10 * t.val + 0) + z.val; omega))

theorem blk0_2 (c : Dev nD) (t : Fin cfg0.N) (y : Fin 768) (z : Fin 128) (h : 128 * (10 * t.val + 1) + z.val < 8960) :
    iblk m c 2 t (ix2 y z) = V m c main_arg1 (ix2 y (⟨128 * (10 * t.val + 1) + z.val, h⟩ : Fin 8960)) := by
  have e := index0_2 t
  show V m c main_arg1 ((win0_2.rect t).emb (ix2 y z)) = _
  congr 1
  funext a
  match a with
  | ⟨0, _⟩ => exact Fin.ext ((win0_2.rect_emb_val t (ix2 y z) 0).trans (by rw [e.1]; show 0 * 768 + y.val = y.val; omega))
  | ⟨1, _⟩ => exact Fin.ext ((win0_2.rect_emb_val t (ix2 y z) 1).trans (by rw [e.2]; show (10 * t.val + 1) * 128 + z.val = 128 * (10 * t.val + 1) + z.val; omega))

theorem blk0_3 (c : Dev nD) (t : Fin cfg0.N) (y : Fin 768) (z : Fin 128) (h : 128 * (10 * t.val + 2) + z.val < 8960) :
    iblk m c 3 t (ix2 y z) = V m c main_arg1 (ix2 y (⟨128 * (10 * t.val + 2) + z.val, h⟩ : Fin 8960)) := by
  have e := index0_3 t
  show V m c main_arg1 ((win0_3.rect t).emb (ix2 y z)) = _
  congr 1
  funext a
  match a with
  | ⟨0, _⟩ => exact Fin.ext ((win0_3.rect_emb_val t (ix2 y z) 0).trans (by rw [e.1]; show 0 * 768 + y.val = y.val; omega))
  | ⟨1, _⟩ => exact Fin.ext ((win0_3.rect_emb_val t (ix2 y z) 1).trans (by rw [e.2]; show (10 * t.val + 2) * 128 + z.val = 128 * (10 * t.val + 2) + z.val; omega))

theorem blk0_4 (c : Dev nD) (t : Fin cfg0.N) (y : Fin 768) (z : Fin 128) (h : 128 * (10 * t.val + 3) + z.val < 8960) :
    iblk m c 4 t (ix2 y z) = V m c main_arg1 (ix2 y (⟨128 * (10 * t.val + 3) + z.val, h⟩ : Fin 8960)) := by
  have e := index0_4 t
  show V m c main_arg1 ((win0_4.rect t).emb (ix2 y z)) = _
  congr 1
  funext a
  match a with
  | ⟨0, _⟩ => exact Fin.ext ((win0_4.rect_emb_val t (ix2 y z) 0).trans (by rw [e.1]; show 0 * 768 + y.val = y.val; omega))
  | ⟨1, _⟩ => exact Fin.ext ((win0_4.rect_emb_val t (ix2 y z) 1).trans (by rw [e.2]; show (10 * t.val + 3) * 128 + z.val = 128 * (10 * t.val + 3) + z.val; omega))

theorem blk0_5 (c : Dev nD) (t : Fin cfg0.N) (y : Fin 768) (z : Fin 128) (h : 128 * (10 * t.val + 4) + z.val < 8960) :
    iblk m c 5 t (ix2 y z) = V m c main_arg1 (ix2 y (⟨128 * (10 * t.val + 4) + z.val, h⟩ : Fin 8960)) := by
  have e := index0_5 t
  show V m c main_arg1 ((win0_5.rect t).emb (ix2 y z)) = _
  congr 1
  funext a
  match a with
  | ⟨0, _⟩ => exact Fin.ext ((win0_5.rect_emb_val t (ix2 y z) 0).trans (by rw [e.1]; show 0 * 768 + y.val = y.val; omega))
  | ⟨1, _⟩ => exact Fin.ext ((win0_5.rect_emb_val t (ix2 y z) 1).trans (by rw [e.2]; show (10 * t.val + 4) * 128 + z.val = 128 * (10 * t.val + 4) + z.val; omega))

theorem blk0_6 (c : Dev nD) (t : Fin cfg0.N) (y : Fin 768) (z : Fin 128) (h : 128 * (10 * t.val + 5) + z.val < 8960) :
    iblk m c 6 t (ix2 y z) = V m c main_arg1 (ix2 y (⟨128 * (10 * t.val + 5) + z.val, h⟩ : Fin 8960)) := by
  have e := index0_6 t
  show V m c main_arg1 ((win0_6.rect t).emb (ix2 y z)) = _
  congr 1
  funext a
  match a with
  | ⟨0, _⟩ => exact Fin.ext ((win0_6.rect_emb_val t (ix2 y z) 0).trans (by rw [e.1]; show 0 * 768 + y.val = y.val; omega))
  | ⟨1, _⟩ => exact Fin.ext ((win0_6.rect_emb_val t (ix2 y z) 1).trans (by rw [e.2]; show (10 * t.val + 5) * 128 + z.val = 128 * (10 * t.val + 5) + z.val; omega))

theorem blk0_7 (c : Dev nD) (t : Fin cfg0.N) (y : Fin 768) (z : Fin 128) (h : 128 * (10 * t.val + 6) + z.val < 8960) :
    iblk m c 7 t (ix2 y z) = V m c main_arg1 (ix2 y (⟨128 * (10 * t.val + 6) + z.val, h⟩ : Fin 8960)) := by
  have e := index0_7 t
  show V m c main_arg1 ((win0_7.rect t).emb (ix2 y z)) = _
  congr 1
  funext a
  match a with
  | ⟨0, _⟩ => exact Fin.ext ((win0_7.rect_emb_val t (ix2 y z) 0).trans (by rw [e.1]; show 0 * 768 + y.val = y.val; omega))
  | ⟨1, _⟩ => exact Fin.ext ((win0_7.rect_emb_val t (ix2 y z) 1).trans (by rw [e.2]; show (10 * t.val + 6) * 128 + z.val = 128 * (10 * t.val + 6) + z.val; omega))

theorem blk0_8 (c : Dev nD) (t : Fin cfg0.N) (y : Fin 768) (z : Fin 128) (h : 128 * (10 * t.val + 7) + z.val < 8960) :
    iblk m c 8 t (ix2 y z) = V m c main_arg1 (ix2 y (⟨128 * (10 * t.val + 7) + z.val, h⟩ : Fin 8960)) := by
  have e := index0_8 t
  show V m c main_arg1 ((win0_8.rect t).emb (ix2 y z)) = _
  congr 1
  funext a
  match a with
  | ⟨0, _⟩ => exact Fin.ext ((win0_8.rect_emb_val t (ix2 y z) 0).trans (by rw [e.1]; show 0 * 768 + y.val = y.val; omega))
  | ⟨1, _⟩ => exact Fin.ext ((win0_8.rect_emb_val t (ix2 y z) 1).trans (by rw [e.2]; show (10 * t.val + 7) * 128 + z.val = 128 * (10 * t.val + 7) + z.val; omega))

theorem blk0_9 (c : Dev nD) (t : Fin cfg0.N) (y : Fin 768) (z : Fin 128) (h : 128 * (10 * t.val + 8) + z.val < 8960) :
    iblk m c 9 t (ix2 y z) = V m c main_arg1 (ix2 y (⟨128 * (10 * t.val + 8) + z.val, h⟩ : Fin 8960)) := by
  have e := index0_9 t
  show V m c main_arg1 ((win0_9.rect t).emb (ix2 y z)) = _
  congr 1
  funext a
  match a with
  | ⟨0, _⟩ => exact Fin.ext ((win0_9.rect_emb_val t (ix2 y z) 0).trans (by rw [e.1]; show 0 * 768 + y.val = y.val; omega))
  | ⟨1, _⟩ => exact Fin.ext ((win0_9.rect_emb_val t (ix2 y z) 1).trans (by rw [e.2]; show (10 * t.val + 8) * 128 + z.val = 128 * (10 * t.val + 8) + z.val; omega))

theorem blk0_10 (c : Dev nD) (t : Fin cfg0.N) (y : Fin 768) (z : Fin 128) (h : 128 * (10 * t.val + 9) + z.val < 8960) :
    iblk m c 10 t (ix2 y z) = V m c main_arg1 (ix2 y (⟨128 * (10 * t.val + 9) + z.val, h⟩ : Fin 8960)) := by
  have e := index0_10 t
  show V m c main_arg1 ((win0_10.rect t).emb (ix2 y z)) = _
  congr 1
  funext a
  match a with
  | ⟨0, _⟩ => exact Fin.ext ((win0_10.rect_emb_val t (ix2 y z) 0).trans (by rw [e.1]; show 0 * 768 + y.val = y.val; omega))
  | ⟨1, _⟩ => exact Fin.ext ((win0_10.rect_emb_val t (ix2 y z) 1).trans (by rw [e.2]; show (10 * t.val + 9) * 128 + z.val = 128 * (10 * t.val + 9) + z.val; omega))

theorem blk0_11 (c : Dev nD) (t : Fin cfg0.N) (y : Fin 48) (z : Fin 1280) (h : 1280 * (t.val) + z.val < 8960) :
    iblk m c 11 t (ix2 y z) = V m c main_arg2 (ix2 y (⟨1280 * (t.val) + z.val, h⟩ : Fin 8960)) := by
  have e := index0_11 t
  show V m c main_arg2 ((win0_11.rect t).emb (ix2 y z)) = _
  congr 1
  funext a
  match a with
  | ⟨0, _⟩ => exact Fin.ext ((win0_11.rect_emb_val t (ix2 y z) 0).trans (by rw [e.1]; show 0 * 48 + y.val = y.val; omega))
  | ⟨1, _⟩ => exact Fin.ext ((win0_11.rect_emb_val t (ix2 y z) 1).trans (by rw [e.2]; show (t.val) * 1280 + z.val = 1280 * (t.val) + z.val; omega))

theorem blk0_12 (c : Dev nD) (t : Fin cfg0.N) (y : Fin 1) (z : Fin 1280) (h : 1280 * (t.val) + z.val < 8960) :
    iblk m c 12 t (ix2 y z) = V m c main_v1 (ix2 y (⟨1280 * (t.val) + z.val, h⟩ : Fin 8960)) := by
  have e := index0_12 t
  show V m c main_v1 ((win0_12.rect t).emb (ix2 y z)) = _
  congr 1
  funext a
  match a with
  | ⟨0, _⟩ => exact Fin.ext ((win0_12.rect_emb_val t (ix2 y z) 0).trans (by rw [e.1]; show 0 * 1 + y.val = y.val; omega))
  | ⟨1, _⟩ => exact Fin.ext ((win0_12.rect_emb_val t (ix2 y z) 1).trans (by rw [e.2]; show (t.val) * 1280 + z.val = 1280 * (t.val) + z.val; omega))

/-- The ten blocks of stored bytes of a point. -/
def Vt (c : Dev nD) (t : Fin cfg0.N) : Fin 10 → Vec F S768x128 .i8 :=
  ![iblk m c 1 t, iblk m c 2 t, iblk m c 3 t, iblk m c 4 t, iblk m c 5 t, iblk m c 6 t, iblk m c 7 t, iblk m c 8 t, iblk m c 9 t, iblk m c 10 t]

theorem Vt_apply (c : Dev nD) (t : Fin cfg0.N) (q : Fin 10) (y : Fin 768) (z : Fin 128) (h : 128 * (10 * t.val + q.val) + z.val < 8960) :
    Vt m c t q (ix2 y z) = V m c main_arg1 (ix2 y (⟨128 * (10 * t.val + q.val) + z.val, h⟩ : Fin 8960)) := by
  match q with
  | ⟨0, _⟩ => exact blk0_1 m c t y z h
  | ⟨1, _⟩ => exact blk0_2 m c t y z h
  | ⟨2, _⟩ => exact blk0_3 m c t y z h
  | ⟨3, _⟩ => exact blk0_4 m c t y z h
  | ⟨4, _⟩ => exact blk0_5 m c t y z h
  | ⟨5, _⟩ => exact blk0_6 m c t y z h
  | ⟨6, _⟩ => exact blk0_7 m c t y z h
  | ⟨7, _⟩ => exact blk0_8 m c t y z h
  | ⟨8, _⟩ => exact blk0_9 m c t y z h
  | ⟨9, _⟩ => exact blk0_10 m c t y z h

/-- The product array. -/
def Yfun (c : Dev nD) : Vec F S1536x8960 .bf16 := fun y =>
  Yt m c ⟨(y 1).val / 1280, by have : (y 1).val < 8960 := (y 1).isLt; have e : cfg0.N = 7 := N_0; omega⟩ (ix2 (n0 := 1536) (n1 := 1280) (y 0) ⟨(y 1).val % 1280, by omega⟩)

theorem Yt_congr (c : Dev nD) {t t' : Fin cfg0.N} {y y' : S1536x1280.Idx} (h : t = t') (e : y = y') : Yt m c t y = Yt m c t' y' := by
  rw [h, e]

theorem flushed_13 (c : Dev nD) (t : Fin cfg0.N) : (dats m 0 c).flushed 13 t = (win0_13.blk t).view.read (Elt F) (Yfun m c : Buf (Elt F) ((c : Thread nD τ).loc main_v2_0)) := by
  show (cfg0.win 13).cut (grid0.coords t) ((dats m 0 c).after 13 t) = _
  rw [after0_13]
  funext y
  have e := index0_13 t
  have h1 : (y 1).val < 1280 := (y 1).isLt
  have e0 : ((win0_13.rect t).emb y 0).val = (y 0).val := (win0_13.rect_emb_val t y 0).trans (by rw [e.1]; show 0 * 1536 + (y 0).val = (y 0).val; omega)
  have e1 : ((win0_13.rect t).emb y 1).val = t.val * 1280 + (y 1).val := (win0_13.rect_emb_val t y 1).trans (by rw [e.2]; rfl)
  have et : ∀ h, (⟨((win0_13.rect t).emb y 1).val / 1280, h⟩ : Fin cfg0.N) = t := fun h => Fin.ext (by show ((win0_13.rect t).emb y 1).val / 1280 = t.val; omega)
  refine Yt_congr m c (et _).symm ?_
  funext a
  match a with
  | ⟨0, _⟩ => exact Fin.ext e0.symm
  | ⟨1, _⟩ => exact Fin.ext (by show (y 1).val = ((win0_13.rect t).emb y 1).val % 1280; omega)

theorem cover_13 (i : S1536x8960.Idx) : ∃ t : Fin cfg0.N, (cfg0.win 13).flush t = true ∧ i ∈ ((cfg0.win 13).blk t).view.set := by
  have h0 : (i 0).val < 1536 := (i 0).isLt
  have h1 : (i 1).val < 8960 := (i 1).isLt
  have hN : cfg0.N = 7 := N_0
  refine ⟨⟨(i 1).val / 1280, by omega⟩, flush0_13 _, ?_⟩
  have e := index0_13 ⟨(i 1).val / 1280, by have : grid0.N = 7 := N_0; omega⟩
  generalize hT : (⟨(i 1).val / 1280, by have : cfg0.N = 7 := N_0; omega⟩ : Fin cfg0.N) = T at e ⊢
  have hv : T.val = (i 1).val / 1280 := by rw [← hT]
  show i ∈ ((View.whole main_v2_0).slice (win0_13.rect T)).set
  rw [View.set_slice_whole, Rect.mem_set_unit]
  intro a
  match a with
  | ⟨0, _⟩ =>
    show win0_13.index T 0 * 1536 ≤ (i 0).val ∧ (i 0).val < win0_13.index T 0 * 1536 + 1536
    rw [e.1]; omega
  | ⟨1, _⟩ =>
    show win0_13.index T 1 * 1280 ≤ (i 1).val ∧ (i 1).val < win0_13.index T 1 * 1280 + 1280
    rw [e.2, hv]
    omega

theorem final_13 (c : Dev nD) : (dats m 0 c).arrAt 13 cfg0.N = (Yfun m c : Buf (Elt F) ((c : Thread nD τ).loc main_v2_0)) :=
  (dats m 0 c).arrAt_eq_of_cover 13 (Yfun m c : Buf (Elt F) ((c : Thread nD τ).loc main_v2_0)) (fun t _ => flushed_13 m c t) cover_13

theorem flushed_14 (c : Dev nD) (t : Fin cfg0.N) : (dats m 0 c).flushed 14 t = (win0_14.blk t).view.read (Elt F) (CODES (Xc m c) : Buf (Elt F) ((c : Thread nD τ).loc main_v2_1)) := by
  show (cfg0.win 14).cut (grid0.coords t) ((dats m 0 c).after 14 t) = _
  rw [after0_14]
  funext y
  have e := index0_14 t
  show CODES (Xc m c) y = CODES (Xc m c) ((win0_14.rect t).emb y)
  congr 1
  funext a
  match a with
  | ⟨0, _⟩ => exact Fin.ext ((win0_14.rect_emb_val t y 0).trans (by rw [e.1]; show 0 * 1536 + (y 0).val = (y 0).val; omega)).symm
  | ⟨1, _⟩ => exact Fin.ext ((win0_14.rect_emb_val t y 1).trans (by rw [e.2]; show 0 * 1536 + (y 1).val = (y 1).val; omega)).symm

theorem cover_14 (i : S1536x1536.Idx) : ∃ t : Fin cfg0.N, (cfg0.win 14).flush t = true ∧ i ∈ ((cfg0.win 14).blk t).view.set := by
  have h0 : (i 0).val < 1536 := (i 0).isLt
  have h1 : (i 1).val < 1536 := (i 1).isLt
  have hN : cfg0.N = 7 := N_0
  refine ⟨⟨6, by omega⟩, (flush0_14 _).2 rfl, ?_⟩
  have e := index0_14 ⟨6, by have : grid0.N = 7 := N_0; omega⟩
  generalize (⟨6, by have : cfg0.N = 7 := N_0; omega⟩ : Fin cfg0.N) = T at e ⊢
  show i ∈ ((View.whole main_v2_1).slice (win0_14.rect T)).set
  rw [View.set_slice_whole, Rect.mem_set_unit]
  intro a
  match a with
  | ⟨0, _⟩ =>
    show win0_14.index T 0 * 1536 ≤ (i 0).val ∧ (i 0).val < win0_14.index T 0 * 1536 + 1536
    rw [e.1]; omega
  | ⟨1, _⟩ =>
    show win0_14.index T 1 * 1536 ≤ (i 1).val ∧ (i 1).val < win0_14.index T 1 * 1536 + 1536
    rw [e.2]; omega

theorem final_14 (c : Dev nD) : (dats m 0 c).arrAt 14 cfg0.N = (CODES (Xc m c) : Buf (Elt F) ((c : Thread nD τ).loc main_v2_1)) :=
  (dats m 0 c).arrAt_eq_of_cover 14 (CODES (Xc m c) : Buf (Elt F) ((c : Thread nD τ).loc main_v2_1)) (fun t _ => flushed_14 m c t) cover_14

theorem flushed_15 (c : Dev nD) (t : Fin cfg0.N) : (dats m 0 c).flushed 15 t = (win0_15.blk t).view.read (Elt F) (SCALES (Xc m c) : Buf (Elt F) ((c : Thread nD τ).loc main_v2_2)) := by
  show (cfg0.win 15).cut (grid0.coords t) ((dats m 0 c).after 15 t) = _
  rw [after0_15]
  funext y
  have e := index0_15 t
  show SCALES (Xc m c) y = SCALES (Xc m c) ((win0_15.rect t).emb y)
  congr 1
  funext a
  match a with
  | ⟨0, _⟩ => exact Fin.ext ((win0_15.rect_emb_val t y 0).trans (by rw [e.1]; show 0 * 1536 + (y 0).val = (y 0).val; omega)).symm
  | ⟨1, _⟩ => exact Fin.ext ((win0_15.rect_emb_val t y 1).trans (by rw [e.2]; show 0 * 1 + (y 1).val = (y 1).val; omega)).symm

theorem cover_15 (i : S1536x1.Idx) : ∃ t : Fin cfg0.N, (cfg0.win 15).flush t = true ∧ i ∈ ((cfg0.win 15).blk t).view.set := by
  have h0 : (i 0).val < 1536 := (i 0).isLt
  have h1 : (i 1).val < 1 := (i 1).isLt
  have hN : cfg0.N = 7 := N_0
  refine ⟨⟨6, by omega⟩, (flush0_15 _).2 rfl, ?_⟩
  have e := index0_15 ⟨6, by have : grid0.N = 7 := N_0; omega⟩
  generalize (⟨6, by have : cfg0.N = 7 := N_0; omega⟩ : Fin cfg0.N) = T at e ⊢
  show i ∈ ((View.whole main_v2_2).slice (win0_15.rect T)).set
  rw [View.set_slice_whole, Rect.mem_set_unit]
  intro a
  match a with
  | ⟨0, _⟩ =>
    show win0_15.index T 0 * 1536 ≤ (i 0).val ∧ (i 0).val < win0_15.index T 0 * 1536 + 1536
    rw [e.1]; omega
  | ⟨1, _⟩ =>
    show win0_15.index T 1 * 1 ≤ (i 1).val ∧ (i 1).val < win0_15.index T 1 * 1 + 1
    rw [e.2]; omega

theorem final_15 (c : Dev nD) : (dats m 0 c).arrAt 15 cfg0.N = (SCALES (Xc m c) : Buf (Elt F) ((c : Thread nD τ).loc main_v2_2)) :=
  (dats m 0 c).arrAt_eq_of_cover 15 (SCALES (Xc m c) : Buf (Elt F) ((c : Thread nD τ).loc main_v2_2)) (fun t _ => flushed_15 m c t) cover_15

/-- The run: the three results and the arguments. -/
theorem run : θ_run defs (onTc (τ := τ) (main (F := F))) ⟨m, fun _ => 0, ρ⟩ (fun r => ∀ c : Dev nD,
      r.2.mem ((c.tc : Thread nD τ).loc main_v2_0) = (Yfun m c : Buf (Elt F) ((c : Thread nD τ).loc main_v2_0))
      ∧ r.2.mem ((c.tc : Thread nD τ).loc main_v2_1) = (CODES (Xc m c) : Buf (Elt F) ((c : Thread nD τ).loc main_v2_1))
      ∧ r.2.mem ((c.tc : Thread nD τ).loc main_v2_2) = (SCALES (Xc m c) : Buf (Elt F) ((c : Thread nD τ).loc main_v2_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 13).trans (final_13 m c), ((h.1 c).1 14).trans (final_14 m c), ((h.1 c).1 15).trans (final_15 m c), h.2 c⟩)
    (θ_run_and (run_main m ρ) (unchanged m ρ))

end Cert.KernelIdeal.Gen
-- ==== Proof.KRefArr.lean ====
/-
  The reference's arrays: its one grid point reads and writes whole arrays.
-/
module

public import proofs.«01_k».proof.Proof.Gen.ReferenceIdeal.Frame
public import Idealize.ShloMosaic.Lib.Pipeline.Value
public import Idealize.ShloMosaic.Lib.ValueIdx

@[expose] public section

set_option maxRecDepth 16384

noncomputable section

namespace Cert.ReferenceIdeal.Gen

open Idealize.ShloMosaic Idealize.ShloMosaic.TcCoe Idealize.SL.Sem Idealize.ShloMosaic.ValueIdx
open Idealize.ShloMosaic.Pipeline (Dat Window)

variable {F : FTy → Type} [FloatOps F]

variable (m : (ℓ : Loc nD τ sig) → Buf (Elt F) ℓ) (ρ : Dev nD → PrngReg)

theorem hz : (![0, 0] : Fin 2 → Nat) = fun _ => 0 := funext fun a => by fin_cases a <;> rfl

theorem index0_0 : ∀ t : Fin grid0.N, win0_0.index t 0 = 0 ∧ win0_0.index t 1 = 0 := by decide +kernel

theorem index0_1 : ∀ t : Fin grid0.N, win0_1.index t 0 = 0 ∧ win0_1.index t 1 = 0 := by decide +kernel

theorem index0_2 : ∀ t : Fin grid0.N, win0_2.index t 0 = 0 ∧ win0_2.index t 1 = 0 := by decide +kernel

theorem index0_3 : ∀ t : Fin grid0.N, win0_3.index t 0 = 0 ∧ win0_3.index t 1 = 0 := by decide +kernel

theorem index0_4 : ∀ t : Fin grid0.N, win0_4.index t 0 = 0 ∧ win0_4.index t 1 = 0 := by decide +kernel

theorem index0_5 : ∀ t : Fin grid0.N, win0_5.index t 0 = 0 ∧ win0_5.index t 1 = 0 := by decide +kernel

theorem index0_6 : ∀ t : Fin grid0.N, win0_6.index t 0 = 0 ∧ win0_6.index t 1 = 0 := by decide +kernel

theorem blk0_0 (c : Dev nD) (t : Fin cfg0.N) : iblk m c 0 t = V m c main_v0 := by
  funext y
  have e := index0_0 t
  show V m c main_v0 ((win0_0.rect t).emb y) = V m c main_v0 y
  congr 1
  funext a
  match a with
  | ⟨0, _⟩ => exact Fin.ext ((win0_0.rect_emb_val t y 0).trans (by rw [e.1]; show 0 * 1536 + (y 0).val = (y 0).val; omega))
  | ⟨1, _⟩ => exact Fin.ext ((win0_0.rect_emb_val t y 1).trans (by rw [e.2]; show 0 * 1536 + (y 1).val = (y 1).val; omega))

theorem blk0_1 (c : Dev nD) (t : Fin cfg0.N) : iblk m c 1 t = V m c main_arg1 := by
  funext y
  have e := index0_1 t
  show V m c main_arg1 ((win0_1.rect t).emb y) = V m c main_arg1 y
  congr 1
  funext a
  match a with
  | ⟨0, _⟩ => exact Fin.ext ((win0_1.rect_emb_val t y 0).trans (by rw [e.1]; show 0 * 768 + (y 0).val = (y 0).val; omega))
  | ⟨1, _⟩ => exact Fin.ext ((win0_1.rect_emb_val t y 1).trans (by rw [e.2]; show 0 * 8960 + (y 1).val = (y 1).val; omega))

theorem blk0_2 (c : Dev nD) (t : Fin cfg0.N) : iblk m c 2 t = V m c main_arg2 := by
  funext y
  have e := index0_2 t
  show V m c main_arg2 ((win0_2.rect t).emb y) = V m c main_arg2 y
  congr 1
  funext a
  match a with
  | ⟨0, _⟩ => exact Fin.ext ((win0_2.rect_emb_val t y 0).trans (by rw [e.1]; show 0 * 48 + (y 0).val = (y 0).val; omega))
  | ⟨1, _⟩ => exact Fin.ext ((win0_2.rect_emb_val t y 1).trans (by rw [e.2]; show 0 * 8960 + (y 1).val = (y 1).val; omega))

theorem blk0_3 (c : Dev nD) (t : Fin cfg0.N) : iblk m c 3 t = V m c main_v1 := by
  funext y
  have e := index0_3 t
  show V m c main_v1 ((win0_3.rect t).emb y) = V m c main_v1 y
  congr 1
  funext a
  match a with
  | ⟨0, _⟩ => exact Fin.ext ((win0_3.rect_emb_val t y 0).trans (by rw [e.1]; show 0 * 1 + (y 0).val = (y 0).val; omega))
  | ⟨1, _⟩ => exact Fin.ext ((win0_3.rect_emb_val t y 1).trans (by rw [e.2]; show 0 * 8960 + (y 1).val = (y 1).val; omega))

/-- The codes. -/
abbrev Cr (c : Dev nD) : Vec F S1536x1536 .fp8e4m3 := k0_pay5 (V m c main_v0)
/-- The scales. -/
abbrev Sr (c : Dev nD) : Vec F S1536x1 .f32 := k0_pay4 (V m c main_v0)
/-- The product. -/
abbrev Yr (c : Dev nD) : Vec F S1536x8960 .bf16 := k0_pay1 (Sr m c) (Cr m c) (k0_pay6 (V m c main_arg2)) (V m c main_arg1) (V m c main_v1)

theorem out_4 (c : Dev nD) (t : Fin cfg0.N) : out0_4 (iblk m c 0 t) (iblk m c 1 t) (iblk m c 2 t) (iblk m c 3 t) = Yr m c := by
  unfold out0_4
  rw [blk0_0, blk0_1, blk0_2, blk0_3, View.canon_unit_zero (S := S1536x8960) hz, View.ld_unit_zero (S := S1536x1536) hz, View.ld_unit_zero (S := S48x8960) hz, View.ld_unit_zero (S := S768x8960) hz, View.ld_unit_zero (S := S1x8960) hz]

theorem flushed_4 (c : Dev nD) (t : Fin cfg0.N) : (dats m 0 c).flushed 4 t = (win0_4.blk t).view.read (Elt F) (Yr m c : Buf (Elt F) ((c : Thread nD τ).loc main_v2_0)) := by
  show (cfg0.win 4).cut (grid0.coords t) ((dats m 0 c).after 4 t) = _
  rw [after0_4, out_4]
  generalize Yr m c = G
  funext y
  have e := index0_4 t
  show G y = G ((win0_4.rect t).emb y)
  congr 1
  funext a
  match a with
  | ⟨0, _⟩ => exact Fin.ext ((win0_4.rect_emb_val t y 0).trans (by rw [e.1]; show 0 * 1536 + (y 0).val = (y 0).val; omega)).symm
  | ⟨1, _⟩ => exact Fin.ext ((win0_4.rect_emb_val t y 1).trans (by rw [e.2]; show 0 * 8960 + (y 1).val = (y 1).val; omega)).symm

theorem cover_4 (i : S1536x8960.Idx) : ∃ t : Fin cfg0.N, (cfg0.win 4).flush t = true ∧ i ∈ ((cfg0.win 4).blk t).view.set := by
  have h0 : (i 0).val < 1536 := (i 0).isLt
  have h1 : (i 1).val < 8960 := (i 1).isLt
  refine ⟨t0_0, flush0_4 _, ?_⟩
  have e := index0_4 t0_0
  generalize (t0_0 : Fin cfg0.N) = T at e ⊢
  show i ∈ ((View.whole main_v2_0).slice (win0_4.rect T)).set
  rw [View.set_slice_whole, Rect.mem_set_unit]
  intro a
  match a with
  | ⟨0, _⟩ =>
    show win0_4.index T 0 * 1536 ≤ (i 0).val ∧ (i 0).val < win0_4.index T 0 * 1536 + 1536
    rw [e.1]; omega
  | ⟨1, _⟩ =>
    show win0_4.index T 1 * 8960 ≤ (i 1).val ∧ (i 1).val < win0_4.index T 1 * 8960 + 8960
    rw [e.2]; omega

theorem final_4 (c : Dev nD) : (dats m 0 c).arrAt 4 cfg0.N = (Yr m c : Buf (Elt F) ((c : Thread nD τ).loc main_v2_0)) :=
  (dats m 0 c).arrAt_eq_of_cover 4 (Yr m c : Buf (Elt F) ((c : Thread nD τ).loc main_v2_0)) (fun t _ => flushed_4 m c t) cover_4

theorem out_5 (c : Dev nD) (t : Fin cfg0.N) : out0_5 (iblk m c 0 t) (iblk m c 1 t) (iblk m c 2 t) (iblk m c 3 t) = Cr m c := by
  unfold out0_5
  rw [blk0_0, View.canon_unit_zero (S := S1536x1536) hz, View.ld_unit_zero (S := S1536x1536) hz]

theorem flushed_5 (c : Dev nD) (t : Fin cfg0.N) : (dats m 0 c).flushed 5 t = (win0_5.blk t).view.read (Elt F) (Cr m c : Buf (Elt F) ((c : Thread nD τ).loc main_v2_1)) := by
  show (cfg0.win 5).cut (grid0.coords t) ((dats m 0 c).after 5 t) = _
  rw [after0_5, out_5]
  generalize Cr m c = G
  funext y
  have e := index0_5 t
  show G y = G ((win0_5.rect t).emb y)
  congr 1
  funext a
  match a with
  | ⟨0, _⟩ => exact Fin.ext ((win0_5.rect_emb_val t y 0).trans (by rw [e.1]; show 0 * 1536 + (y 0).val = (y 0).val; omega)).symm
  | ⟨1, _⟩ => exact Fin.ext ((win0_5.rect_emb_val t y 1).trans (by rw [e.2]; show 0 * 1536 + (y 1).val = (y 1).val; omega)).symm

theorem cover_5 (i : S1536x1536.Idx) : ∃ t : Fin cfg0.N, (cfg0.win 5).flush t = true ∧ i ∈ ((cfg0.win 5).blk t).view.set := by
  have h0 : (i 0).val < 1536 := (i 0).isLt
  have h1 : (i 1).val < 1536 := (i 1).isLt
  refine ⟨t0_0, flush0_5 _, ?_⟩
  have e := index0_5 t0_0
  generalize (t0_0 : Fin cfg0.N) = T at e ⊢
  show i ∈ ((View.whole main_v2_1).slice (win0_5.rect T)).set
  rw [View.set_slice_whole, Rect.mem_set_unit]
  intro a
  match a with
  | ⟨0, _⟩ =>
    show win0_5.index T 0 * 1536 ≤ (i 0).val ∧ (i 0).val < win0_5.index T 0 * 1536 + 1536
    rw [e.1]; omega
  | ⟨1, _⟩ =>
    show win0_5.index T 1 * 1536 ≤ (i 1).val ∧ (i 1).val < win0_5.index T 1 * 1536 + 1536
    rw [e.2]; omega

theorem final_5 (c : Dev nD) : (dats m 0 c).arrAt 5 cfg0.N = (Cr m c : Buf (Elt F) ((c : Thread nD τ).loc main_v2_1)) :=
  (dats m 0 c).arrAt_eq_of_cover 5 (Cr m c : Buf (Elt F) ((c : Thread nD τ).loc main_v2_1)) (fun t _ => flushed_5 m c t) cover_5

theorem out_6 (c : Dev nD) (t : Fin cfg0.N) : out0_6 (iblk m c 0 t) (iblk m c 1 t) (iblk m c 2 t) (iblk m c 3 t) = Sr m c := by
  unfold out0_6
  rw [blk0_0, View.canon_unit_zero (S := S1536x1) hz, View.ld_unit_zero (S := S1536x1536) hz]

theorem flushed_6 (c : Dev nD) (t : Fin cfg0.N) : (dats m 0 c).flushed 6 t = (win0_6.blk t).view.read (Elt F) (Sr m c : Buf (Elt F) ((c : Thread nD τ).loc main_v2_2)) := by
  show (cfg0.win 6).cut (grid0.coords t) ((dats m 0 c).after 6 t) = _
  rw [after0_6, out_6]
  generalize Sr m c = G
  funext y
  have e := index0_6 t
  show G y = G ((win0_6.rect t).emb y)
  congr 1
  funext a
  match a with
  | ⟨0, _⟩ => exact Fin.ext ((win0_6.rect_emb_val t y 0).trans (by rw [e.1]; show 0 * 1536 + (y 0).val = (y 0).val; omega)).symm
  | ⟨1, _⟩ => exact Fin.ext ((win0_6.rect_emb_val t y 1).trans (by rw [e.2]; show 0 * 1 + (y 1).val = (y 1).val; omega)).symm

theorem cover_6 (i : S1536x1.Idx) : ∃ t : Fin cfg0.N, (cfg0.win 6).flush t = true ∧ i ∈ ((cfg0.win 6).blk t).view.set := by
  have h0 : (i 0).val < 1536 := (i 0).isLt
  have h1 : (i 1).val < 1 := (i 1).isLt
  refine ⟨t0_0, flush0_6 _, ?_⟩
  have e := index0_6 t0_0
  generalize (t0_0 : Fin cfg0.N) = T at e ⊢
  show i ∈ ((View.whole main_v2_2).slice (win0_6.rect T)).set
  rw [View.set_slice_whole, Rect.mem_set_unit]
  intro a
  match a with
  | ⟨0, _⟩ =>
    show win0_6.index T 0 * 1536 ≤ (i 0).val ∧ (i 0).val < win0_6.index T 0 * 1536 + 1536
    rw [e.1]; omega
  | ⟨1, _⟩ =>
    show win0_6.index T 1 * 1 ≤ (i 1).val ∧ (i 1).val < win0_6.index T 1 * 1 + 1
    rw [e.2]; omega

theorem final_6 (c : Dev nD) : (dats m 0 c).arrAt 6 cfg0.N = (Sr m c : Buf (Elt F) ((c : Thread nD τ).loc main_v2_2)) :=
  (dats m 0 c).arrAt_eq_of_cover 6 (Sr m c : Buf (Elt F) ((c : Thread nD τ).loc main_v2_2)) (fun t _ => flushed_6 m c t) cover_6

/-- The run: the three results and the arguments. -/
theorem run : θ_run defs (onTc (τ := τ) (main (F := F))) ⟨m, fun _ => 0, ρ⟩ (fun r => ∀ c : Dev nD,
      r.2.mem ((c.tc : Thread nD τ).loc main_v2_0) = (Yr m c : Buf (Elt F) ((c : Thread nD τ).loc main_v2_0))
      ∧ r.2.mem ((c.tc : Thread nD τ).loc main_v2_1) = (Cr m c : Buf (Elt F) ((c : Thread nD τ).loc main_v2_1))
      ∧ r.2.mem ((c.tc : Thread nD τ).loc main_v2_2) = (Sr m c : Buf (Elt F) ((c : Thread nD τ).loc main_v2_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_4 m c), ((h.1 c).1 5).trans (final_5 m c), ((h.1 c).1 6).trans (final_6 m c), h.2 c⟩)
    (θ_run_and (run_main m ρ) (unchanged m ρ))

end Cert.ReferenceIdeal.Gen
-- ==== Proof.KFinal.lean ====
/-
  The kernel's results are the reference's.
-/
module

public import proofs.«01_k».proof.Proof.KPre
public import proofs.«01_k».proof.Proof.KVal
public import proofs.«01_k».proof.Proof.KArr
public import proofs.«01_k».proof.Proof.KRefArr

@[expose] public section

noncomputable section

namespace Cert.Sparse

open Idealize.ShloMosaic Idealize.ShloMosaic.TcCoe Idealize.SL.Sem

theorem perm_perm : ∀ n : Fin 1536, perm (perm n) = n := by decide +kernel

theorem perm_bij : Function.Bijective perm := (show Function.Involutive perm from perm_perm).bijective

variable [Cert.Pre_kept_apart.Facts]

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem kernel_x (h : Cert.KernelIdeal.S3x512x1536.ShapeCasts Cert.KernelIdeal.S1536x1536) : Cert.KernelIdeal.Gen.V m c Cert.KernelIdeal.main_v0
    = shapeCast Cert.KernelIdeal.S1536x1536 (m ((c : Thread Cert.KernelIdeal.nD Cert.KernelIdeal.τ).loc Cert.KernelIdeal.main_arg0)) h := rfl

theorem kernel_ws (h : Cert.KernelIdeal.S8960.ShapeCasts Cert.KernelIdeal.S1x8960) : Cert.KernelIdeal.Gen.V m c Cert.KernelIdeal.main_v1
    = shapeCast Cert.KernelIdeal.S1x8960 (m ((c : Thread Cert.KernelIdeal.nD Cert.KernelIdeal.τ).loc Cert.KernelIdeal.main_arg3)) h := rfl

theorem ref_x (h : Cert.KernelIdeal.S3x512x1536.ShapeCasts Cert.KernelIdeal.S1536x1536) : Cert.ReferenceIdeal.Gen.V m' c Cert.ReferenceIdeal.main_v0
    = shapeCast Cert.KernelIdeal.S1536x1536 (m' ((c : Thread Cert.ReferenceIdeal.nD Cert.ReferenceIdeal.τ).loc Cert.ReferenceIdeal.main_arg0)) h := rfl

theorem ref_ws (h : Cert.KernelIdeal.S8960.ShapeCasts Cert.KernelIdeal.S1x8960) : Cert.ReferenceIdeal.Gen.V m' c Cert.ReferenceIdeal.main_v1
    = shapeCast Cert.KernelIdeal.S1x8960 (m' ((c : Thread Cert.ReferenceIdeal.nD Cert.ReferenceIdeal.τ).loc Cert.ReferenceIdeal.main_arg3)) h := rfl

end

section

open Cert.KernelIdeal Cert.KernelIdeal.Gen

variable (m : (ℓ : Loc nD τ sig) → Buf (Elt Ideal) ℓ) (c : Dev nD)

theorem Xc_eq : Xc m c = V m c main_v0 := by
  funext y
  rw [show y = ix2 (n0 := 1536) (n1 := 1536) (y 0) (y 1) from by funext a; fin_cases a <;> rfl]
  exact Xc_apply m c (y 0) (y 1)

/-- One entry of the kernel's product, as the sum over the dense rows. -/
theorem yfun_apply (r : Fin 1536) (col : Fin 8960)
    (hne : ∀ (d : Fin 8) (s : Fin 48), pos (V m c main_arg2 (ix2 s col)) (4 * d.val) ≠ pos (V m c main_arg2 (ix2 s col)) (4 * d.val + 2)) :
    Yfun m c (ix2 r col) = (Ideal.ofBits .f32 0x00000000#32 + ∑ k : Fin 1536, CODES (V m c main_v0) (ix2 r k) *
      dec (V m c main_arg2 (ix2 (⟨k.val / 32, by omega⟩ : Fin 48) col)) (V m c main_arg1 (ix2 (⟨2 * (k.val / 4), by omega⟩ : Fin 768) col))
        (V m c main_arg1 (ix2 (⟨2 * (k.val / 4) + 1, by omega⟩ : Fin 768) col)) (k.val % 32 / 4) (k.val % 4))
      * rowScale (fun k => V m c main_v0 (ix2 r k)) * V m c main_v1 (ix2 (0 : Fin 1) col) := by
  have hN : cfg0.N = 7 := N_0
  have hc : col.val < 8960 := col.isLt
  obtain ⟨t, ht⟩ : ∃ t : Fin cfg0.N, t.val = col.val / 1280 := ⟨⟨col.val / 1280, by omega⟩, rfl⟩
  obtain ⟨j, hj⟩ : ∃ j : Fin 1280, j.val = col.val % 1280 := ⟨⟨col.val % 1280, by omega⟩, rfl⟩
  have e1 : Yfun m c (ix2 r col) = Yt m c t (ix2 r j) :=
    Yt_congr m c (Fin.ext ht.symm) (congrArg (fun j : Fin 1280 => ix2 (n0 := 1536) (n1 := 1280) r j) (Fin.ext hj.symm))
  have hi : ∀ s : Fin 48, iblk m c 11 t (ix2 s j) = V m c main_arg2 (ix2 s col) := fun s =>
    (blk0_11 m c t s j (by omega)).trans (congrArg (fun z : Fin 8960 => V m c main_arg2 (ix2 s z)) (Fin.ext (by show 1280 * t.val + j.val = col.val; omega)))
  have hs : iblk m c 12 t (ix2 (0 : Fin 1) j) = V m c main_v1 (ix2 (0 : Fin 1) col) :=
    (blk0_12 m c t 0 j (by omega)).trans (congrArg (fun z : Fin 8960 => V m c main_v1 (ix2 (0 : Fin 1) z)) (Fin.ext (by show 1280 * t.val + j.val = col.val; omega)))
  have hw : ∀ g : Fin 768, Vt m c t ⟨j.val / 128, by omega⟩ (ix2 g (⟨j.val % 128, by omega⟩ : Fin 128)) = V m c main_arg1 (ix2 g col) := fun g =>
    (Vt_apply m c t ⟨j.val / 128, by omega⟩ g ⟨j.val % 128, by omega⟩ (by show 128 * (10 * t.val + j.val / 128) + j.val % 128 < 8960; omega)).trans
      (congrArg (fun z : Fin 8960 => V m c main_arg1 (ix2 g z)) (Fin.ext (by show 128 * (10 * t.val + j.val / 128) + j.val % 128 = col.val; omega)))
  have e2 : Yt m c t (ix2 r j) = Yof (XPV (Xc m c)) (XSV (Xc m c)) (Vt m c t) (iblk m c 11 t) (iblk m c 12 t) (ix2 r j) := rfl
  rw [e1, e2, yof_apply _ _ _ _ _ r j _ (fun l => xsv_apply (Xc m c) r l), hs, Xc_eq]
  refine congrArg (fun s => (Ideal.ofBits .f32 0x00000000#32 + s) * rowScale (fun k => V m c main_v0 (ix2 r k)) * V m c main_v1 (ix2 (0 : Fin 1) col)) ?_
  refine Eq.trans (Finset.sum_congr rfl fun k _ => ?_) (perm_bij.sum_comp fun k : Fin 1536 => CODES (V m c main_v0) (ix2 r k) *
      dec (V m c main_arg2 (ix2 (⟨k.val / 32, by omega⟩ : Fin 48) col)) (V m c main_arg1 (ix2 (⟨2 * (k.val / 4), by omega⟩ : Fin 768) col))
        (V m c main_arg1 (ix2 (⟨2 * (k.val / 4) + 1, by omega⟩ : Fin 768) col)) (k.val % 32 / 4) (k.val % 4))
  have hk := hne ⟨(perm k).val % 32 / 4, by omega⟩ ⟨(perm k).val / 32, by omega⟩
  rw [← hi] at hk
  rw [xpv_apply, wd_apply (Vt m c t) (iblk m c 11 t) k j hk, hi, hw, hw]

end

/-- One entry of the reference's product, at the kernel's codes and scales. -/
theorem yr_apply (X : Vec Ideal Cert.KernelIdeal.S1536x1536 .bf16) (I : Vec Ideal Cert.KernelIdeal.S48x8960 .i32) (W : Vec Ideal Cert.KernelIdeal.S768x8960 .i8)
    (WS : Vec Ideal Cert.KernelIdeal.S1x8960 .f32) (hX : ∀ r k : Fin 1536, max (X (ix2 r k)) (-(X (ix2 r k))) ≤ Ideal.ofBits .f32 0x7F7F0000#32) (r : Fin 1536) (col : Fin 8960) :
    Cert.ReferenceIdeal.Gen.k0_pay1 (F := Ideal) (Cert.ReferenceIdeal.Gen.k0_pay4 X) (Cert.ReferenceIdeal.Gen.k0_pay5 X) (Cert.ReferenceIdeal.Gen.k0_pay6 (F := Ideal) I) W WS (ix2 r col)
      = (Ideal.ofBits .f32 0x00000000#32 + ∑ k : Fin 1536, Cert.KernelIdeal.Gen.CODES X (ix2 r k) *
      dec (I (ix2 (⟨k.val / 32, by omega⟩ : Fin 48) col)) (W (ix2 (⟨2 * (k.val / 4), by omega⟩ : Fin 768) col))
        (W (ix2 (⟨2 * (k.val / 4) + 1, by omega⟩ : Fin 768) col)) (k.val % 32 / 4) (k.val % 4))
      * rowScale (fun k => X (ix2 r k)) * WS (ix2 (0 : Fin 1) col) := by
  have h0 : Ideal.ofBits .f32 0x00000000#32 = 0 := by simp [Ideal.ofBits, Ideal.ieee]
  have hs := scales_apply X r 0
  rw [scales_eq X hX] at hs
  rw [refpay1_apply, h0, hs, codes_eq X hX]

section

variable (m : (ℓ : Loc Cert.KernelIdeal.nD Cert.KernelIdeal.τ Cert.KernelIdeal.sig) → Buf (Elt Ideal) ℓ)
  (c : Dev Cert.KernelIdeal.nD)

theorem product_eq
    (X : Vec Ideal Cert.KernelIdeal.S1536x1536 .bf16) (hX0 : Cert.KernelIdeal.Gen.V m c Cert.KernelIdeal.main_v0 = X)
    (I : Vec Ideal Cert.KernelIdeal.S48x8960 .i32) (hI0 : Cert.KernelIdeal.Gen.V m c Cert.KernelIdeal.main_arg2 = I)
    (W : Vec Ideal Cert.KernelIdeal.S768x8960 .i8) (hW0 : Cert.KernelIdeal.Gen.V m c Cert.KernelIdeal.main_arg1 = W)
    (WS : Vec Ideal Cert.KernelIdeal.S1x8960 .f32) (hS0 : Cert.KernelIdeal.Gen.V m c Cert.KernelIdeal.main_v1 = WS)
    (hX : ∀ r k : Fin 1536, max (X (ix2 r k)) (-(X (ix2 r k))) ≤ Ideal.ofBits .f32 0x7F7F0000#32)
    (hne : ∀ (d : Fin 8) (s : Fin 48) (col : Fin 8960), pos (I (ix2 s col)) (4 * d.val) ≠ pos (I (ix2 s col)) (4 * d.val + 2)) :
    Cert.KernelIdeal.Gen.Yfun m c = Cert.ReferenceIdeal.Gen.k0_pay1 (F := Ideal) (Cert.ReferenceIdeal.Gen.k0_pay4 X) (Cert.ReferenceIdeal.Gen.k0_pay5 X) (Cert.ReferenceIdeal.Gen.k0_pay6 (F := Ideal) I) W WS := by
  have h : ∀ (r : Fin 1536) (col : Fin 8960), Cert.KernelIdeal.Gen.Yfun m c (ix2 r col) = Cert.ReferenceIdeal.Gen.k0_pay1 (F := Ideal) (Cert.ReferenceIdeal.Gen.k0_pay4 X) (Cert.ReferenceIdeal.Gen.k0_pay5 X) (Cert.ReferenceIdeal.Gen.k0_pay6 (F := Ideal) I) W WS (ix2 r col) := by
    intro r col
    rw [yr_apply X I W WS hX, yfun_apply m c r col fun d s => by rw [hI0]; exact hne d s col, hX0, hI0, hW0, hS0]
  funext y
  rw [show y = ix2 (n0 := 1536) (n1 := 8960) (y 0) (y 1) from by funext a; fin_cases a <;> rfl]
  exact h (y 0) (y 1)

end

end Cert.Sparse
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_kept_apart
public import proofs.«01_k».proof.Proof.PFrame
public import proofs.«01_k».proof.Proof.KFinal
public import Idealize.ShloMosaic.Adequacy
public import Idealize.ShloMosaic.Init

@[expose] public section

noncomputable section

namespace Cert.Proof

open Idealize.ShloMosaic Idealize.SL.Sem Cert.Kernel

/-- The kernel's results are the reference's, over the reals. -/
theorem results : algebraic_KernelIdeal_ReferenceIdeal_pre_kept_apart := by
  intro m g m' g' hpre harg
  refine ⟨fun c => Cert.KernelIdeal.Gen.Yfun m c, fun c => Cert.KernelIdeal.Gen.CODES (Cert.KernelIdeal.Gen.Xc m c),
    fun c => Cert.KernelIdeal.Gen.SCALES (Cert.KernelIdeal.Gen.Xc m c), Cert.KernelIdeal.Gen.run m g, ?_⟩
  refine (θ_run _ _ _).mono (fun r h c => ?_) (Cert.ReferenceIdeal.Gen.run m' g')
  obtain ⟨h0, h1, h2, hargs⟩ := h c
  obtain ⟨a0, a1, a2, a3⟩ := harg c
  obtain ⟨hfin, hne⟩ := Cert.Sparse.pre_split _ _ _ _ (hpre c)
  have hx : Cert.ReferenceIdeal.Gen.V m' c Cert.ReferenceIdeal.main_v0 = Cert.KernelIdeal.Gen.V m c Cert.KernelIdeal.main_v0 := by
    rw [Cert.Sparse.ref_x m' c Cert.KernelIdeal.Gen.shapeCasts_S3x512x1536_S1536x1536, Cert.Sparse.kernel_x m c Cert.KernelIdeal.Gen.shapeCasts_S3x512x1536_S1536x1536]
    exact congrArg (fun X => shapeCast Cert.KernelIdeal.S1536x1536 X _) a0
  have hs : Cert.ReferenceIdeal.Gen.V m' c Cert.ReferenceIdeal.main_v1 = Cert.KernelIdeal.Gen.V m c Cert.KernelIdeal.main_v1 := by
    rw [Cert.Sparse.ref_ws m' c Cert.KernelIdeal.Gen.shapeCasts_S8960_S1x8960, Cert.Sparse.kernel_ws m c Cert.KernelIdeal.Gen.shapeCasts_S8960_S1x8960]
    exact congrArg (fun X => shapeCast Cert.KernelIdeal.S1x8960 X _) a3
  have hw : Cert.ReferenceIdeal.Gen.V m' c Cert.ReferenceIdeal.main_arg1 = Cert.KernelIdeal.Gen.V m c Cert.KernelIdeal.main_arg1 :=
    (Cert.ReferenceIdeal.Gen.V_main_arg1 m' c).trans (a1.trans (Cert.KernelIdeal.Gen.V_main_arg1 m c).symm)
  have hi : Cert.ReferenceIdeal.Gen.V m' c Cert.ReferenceIdeal.main_arg2 = Cert.KernelIdeal.Gen.V m c Cert.KernelIdeal.main_arg2 :=
    (Cert.ReferenceIdeal.Gen.V_main_arg2 m' c).trans (a2.trans (Cert.KernelIdeal.Gen.V_main_arg2 m c).symm)
  obtain ⟨X, hX⟩ : ∃ X : Vec Ideal Cert.KernelIdeal.S1536x1536 .bf16, Cert.KernelIdeal.Gen.V m c Cert.KernelIdeal.main_v0 = X := ⟨_, rfl⟩
  obtain ⟨I, hI⟩ : ∃ I : Vec Ideal Cert.KernelIdeal.S48x8960 .i32, Cert.KernelIdeal.Gen.V m c Cert.KernelIdeal.main_arg2 = I := ⟨_, rfl⟩
  have hbound : ∀ r k : Fin 1536, max (X (ValueIdx.ix2 r k)) (-(X (ValueIdx.ix2 r k))) ≤ Ideal.ofBits .f32 0x7F7F0000#32 := by
    intro r k
    rw [← hX, Cert.Sparse.kernel_x m c Cert.KernelIdeal.Gen.shapeCasts_S3x512x1536_S1536x1536]
    exact hfin _
  have hapart : ∀ (d : Fin 8) (s : Fin 48) (col : Fin 8960), Cert.Sparse.pos (I (ValueIdx.ix2 s col)) (4 * d.val) ≠ Cert.Sparse.pos (I (ValueIdx.ix2 s col)) (4 * d.val + 2) := by
    intro d s col
    rw [← hI, Cert.KernelIdeal.Gen.V_main_arg2]
    exact hne d s col
  have hy := Cert.Sparse.product_eq m c X hX I hI _ rfl _ rfl hbound hapart
  refine ⟨h0.trans ?_, h1.trans ?_, h2.trans ?_, hargs⟩
  · refine Eq.trans ?_ hy.symm
    unfold Cert.ReferenceIdeal.Gen.Yr Cert.ReferenceIdeal.Gen.Sr Cert.ReferenceIdeal.Gen.Cr
    rw [hx, hw, hi, hs, hX, hI]
  · beta_reduce
    rw [Cert.Sparse.Xc_eq, hX, Cert.Sparse.codes_eq X hbound]
    unfold Cert.ReferenceIdeal.Gen.Cr
    rw [hx, hX]
  · beta_reduce
    rw [Cert.Sparse.Xc_eq, hX, Cert.Sparse.scales_eq X hbound]
    unfold Cert.ReferenceIdeal.Gen.Sr
    rw [hx, hX]

theorem claim : Cert.Claim := ⟨Cert.Kernel.Gen.facts, Cert.KernelIdeal.Gen.facts, Cert.ReferenceIdeal.Gen.facts, Cert.Pre_kept_apart.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, results⟩

end Cert.Proof

end
